-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S3x4x4x32x512 : Shape := ⟨5, ![3, 4, 4, 32, 512]⟩
abbrev S3x4x32x512 : Shape := ⟨4, ![3, 4, 32, 512]⟩
abbrev S6x4x4 : Shape := ⟨3, ![6, 4, 4]⟩
abbrev S_ : Shape := ⟨0, ![]⟩
abbrev S32x256 : Shape := ⟨2, ![32, 256]⟩
abbrev S32x512 : Shape := ⟨2, ![32, 512]⟩
abbrev S1x1x1x32x512 : Shape := ⟨5, ![1, 1, 1, 32, 512]⟩
abbrev S1x1x1 : Shape := ⟨3, ![1, 1, 1]⟩
abbrev S1x1x32x512 : Shape := ⟨4, ![1, 1, 32, 512]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S3x4x4x32x512, .bf16⟩
  | .local _ .vmem, ⟨9, _⟩ => ⟨S3x4x4x32x512, .bf16⟩
  | .local _ .vmem, ⟨10, _⟩ => ⟨S3x4x32x512, .bf16⟩
  | .local _ .vmem, ⟨11, _⟩ => ⟨S3x4x4x32x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_29 : BitVec 32) (c0_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c128_i32 : BitVec 32 := 128#32
  let v56 : BitVec 32 := Scalar.muli v55 c128_i32
  let v57 : BitVec 32 := Scalar.addi v56 c0_i32_36
  let v58 : Index := Scalar.indexCast v57
  let c0_37 : Index := 0#32
  ![v58.toNat, 0]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v63 : BitVec 32 := Scalar.addi v2 c2_i32_38
  let c4_i32_39 : BitVec 32 := 4#32
  let c0_i32_40 : BitVec 32 := 0#32
  let v64 : BitVec 1 := Scalar.cmpi .eq c4_i32_39 c0_i32_40
  let c1_i32_41 : BitVec 32 := 1#32
  let v65 : BitVec 32 := Scalar.select v64 c1_i32_41 c4_i32_39
  let v66 : BitVec 32 := Scalar.remsi v63 v65
  let c0_i32_43 : BitVec 32 := 0#32
  let v68 : BitVec 1 := Scalar.cmpi .slt v66 c0_i32_43
  let c0_i32_44 : BitVec 32 := 0#32
  let v69 : BitVec 1 := Scalar.cmpi .slt v65 c0_i32_44
  let v70 : BitVec 1 := Scalar.xori v68 v69
  let c0_i32_42 : BitVec 32 := 0#32
  let v67 : BitVec 1 := Scalar.cmpi .ne v66 c0_i32_42
  let v71 : BitVec 1 := Scalar.andi v70 v67
  let v72 : BitVec 32 := Scalar.addi v66 v65
  let v73 : BitVec 32 := Scalar.select v71 v72 v66
  let c1_i32_61 : BitVec 32 := 1#32
  let v77 : BitVec 32 := Scalar.muli v73 c1_i32_61
  let v78 : BitVec 32 := Scalar.addi c0_i32_62 v77
  v78.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_78 : BitVec 32 := 1#32
  let v105 : BitVec 32 := Scalar.addi v2 c1_i32_78
  let c4_i32_79 : BitVec 32 := 4#32
  let c0_i32_80 : BitVec 32 := 0#32
  let v106 : BitVec 1 := Scalar.cmpi .eq c4_i32_79 c0_i32_80
  let c1_i32_81 : BitVec 32 := 1#32
  let v107 : BitVec 32 := Scalar.select v106 c1_i32_81 c4_i32_79
  let v108 : BitVec 32 := Scalar.remsi v105 v107
  let c0_i32_83 : BitVec 32 := 0#32
  let v110 : BitVec 1 := Scalar.cmpi .slt v108 c0_i32_83
  let c0_i32_84 : BitVec 32 := 0#32
  let v111 : BitVec 1 := Scalar.cmpi .slt v107 c0_i32_84
  let v112 : BitVec 1 := Scalar.xori v110 v111
  let c0_i32_82 : BitVec 32 := 0#32
  let v109 : BitVec 1 := Scalar.cmpi .ne v108 c0_i32_82
  let v113 : BitVec 1 := Scalar.andi v112 v109
  let v114 : BitVec 32 := Scalar.addi v108 v107
  let v115 : BitVec 32 := Scalar.select v113 v114 v108
  let c1_i32_101 : BitVec 32 := 1#32
  let v119 : BitVec 32 := Scalar.muli v115 c1_i32_101
  let v120 : BitVec 32 := Scalar.addi c0_i32_102 v119
  v120.toNat
def k0_dev6 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_118 : BitVec 32 := 3#32
  let v147 : BitVec 32 := Scalar.addi v2 c3_i32_118
  let c4_i32_119 : BitVec 32 := 4#32
  let c0_i32_120 : BitVec 32 := 0#32
  let v148 : BitVec 1 := Scalar.cmpi .eq c4_i32_119 c0_i32_120
  let c1_i32_121 : BitVec 32 := 1#32
  let v149 : BitVec 32 := Scalar.select v148 c1_i32_121 c4_i32_119
  let v150 : BitVec 32 := Scalar.remsi v147 v149
  let c0_i32_123 : BitVec 32 := 0#32
  let v152 : BitVec 1 := Scalar.cmpi .slt v150 c0_i32_123
  let c0_i32_124 : BitVec 32 := 0#32
  let v153 : BitVec 1 := Scalar.cmpi .slt v149 c0_i32_124
  let v154 : BitVec 1 := Scalar.xori v152 v153
  let c0_i32_122 : BitVec 32 := 0#32
  let v151 : BitVec 1 := Scalar.cmpi .ne v150 c0_i32_122
  let v155 : BitVec 1 := Scalar.andi v154 v151
  let v156 : BitVec 32 := Scalar.addi v150 v149
  let v157 : BitVec 32 := Scalar.select v155 v156 v150
  let c1_i32_141 : BitVec 32 := 1#32
  let v161 : BitVec 32 := Scalar.muli v157 c1_i32_141
  let v162 : BitVec 32 := Scalar.addi c0_i32_142 v161
  v162.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_157 : BitVec 32 := 2#32
  let v189 : BitVec 32 := Scalar.addi v2 c2_i32_157
  let c4_i32_158 : BitVec 32 := 4#32
  let c0_i32_159 : BitVec 32 := 0#32
  let v190 : BitVec 1 := Scalar.cmpi .eq c4_i32_158 c0_i32_159
  let c1_i32_160 : BitVec 32 := 1#32
  let v191 : BitVec 32 := Scalar.select v190 c1_i32_160 c4_i32_158
  let v192 : BitVec 32 := Scalar.remsi v189 v191
  let c0_i32_162 : BitVec 32 := 0#32
  let v194 : BitVec 1 := Scalar.cmpi .slt v192 c0_i32_162
  let c0_i32_163 : BitVec 32 := 0#32
  let v195 : BitVec 1 := Scalar.cmpi .slt v191 c0_i32_163
  let v196 : BitVec 1 := Scalar.xori v194 v195
  let c0_i32_161 : BitVec 32 := 0#32
  let v193 : BitVec 1 := Scalar.cmpi .ne v192 c0_i32_161
  let v197 : BitVec 1 := Scalar.andi v196 v193
  let v198 : BitVec 32 := Scalar.addi v192 v191
  let v199 : BitVec 32 := Scalar.select v197 v198 v192
  let c1_i32_181 : BitVec 32 := 1#32
  let v203 : BitVec 32 := Scalar.muli v199 c1_i32_181
  let v204 : BitVec 32 := Scalar.addi c0_i32_182 v203
  v204.toNat
def k0_dev8 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_198 : BitVec 32 := 1#32
  let v231 : BitVec 32 := Scalar.addi v2 c1_i32_198
  let c4_i32_199 : BitVec 32 := 4#32
  let c0_i32_200 : BitVec 32 := 0#32
  let v232 : BitVec 1 := Scalar.cmpi .eq c4_i32_199 c0_i32_200
  let c1_i32_201 : BitVec 32 := 1#32
  let v233 : BitVec 32 := Scalar.select v232 c1_i32_201 c4_i32_199
  let v234 : BitVec 32 := Scalar.remsi v231 v233
  let c0_i32_203 : BitVec 32 := 0#32
  let v236 : BitVec 1 := Scalar.cmpi .slt v234 c0_i32_203
  let c0_i32_204 : BitVec 32 := 0#32
  let v237 : BitVec 1 := Scalar.cmpi .slt v233 c0_i32_204
  let v238 : BitVec 1 := Scalar.xori v236 v237
  let c0_i32_202 : BitVec 32 := 0#32
  let v235 : BitVec 1 := Scalar.cmpi .ne v234 c0_i32_202
  let v239 : BitVec 1 := Scalar.andi v238 v235
  let v240 : BitVec 32 := Scalar.addi v234 v233
  let v241 : BitVec 32 := Scalar.select v239 v240 v234
  let c1_i32_222 : BitVec 32 := 1#32
  let v245 : BitVec 32 := Scalar.muli v241 c1_i32_222
  let v246 : BitVec 32 := Scalar.addi c0_i32_223 v245
  v246.toNat
def k0_dev9 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_239 : BitVec 32 := 3#32
  let v273 : BitVec 32 := Scalar.addi v2 c3_i32_239
  let c4_i32_240 : BitVec 32 := 4#32
  let c0_i32_241 : BitVec 32 := 0#32
  let v274 : BitVec 1 := Scalar.cmpi .eq c4_i32_240 c0_i32_241
  let c1_i32_242 : BitVec 32 := 1#32
  let v275 : BitVec 32 := Scalar.select v274 c1_i32_242 c4_i32_240
  let v276 : BitVec 32 := Scalar.remsi v273 v275
  let c0_i32_244 : BitVec 32 := 0#32
  let v278 : BitVec 1 := Scalar.cmpi .slt v276 c0_i32_244
  let c0_i32_245 : BitVec 32 := 0#32
  let v279 : BitVec 1 := Scalar.cmpi .slt v275 c0_i32_245
  let v280 : BitVec 1 := Scalar.xori v278 v279
  let c0_i32_243 : BitVec 32 := 0#32
  let v277 : BitVec 1 := Scalar.cmpi .ne v276 c0_i32_243
  let v281 : BitVec 1 := Scalar.andi v280 v277
  let v282 : BitVec 32 := Scalar.addi v276 v275
  let v283 : BitVec 32 := Scalar.select v281 v282 v276
  let c1_i32_263 : BitVec 32 := 1#32
  let v287 : BitVec 32 := Scalar.muli v283 c1_i32_263
  let v288 : BitVec 32 := Scalar.addi c0_i32_264 v287
  v288.toNat
def k0_dev10 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_279 : BitVec 32 := 2#32
  let v315 : BitVec 32 := Scalar.addi v2 c2_i32_279
  let c4_i32_280 : BitVec 32 := 4#32
  let c0_i32_281 : BitVec 32 := 0#32
  let v316 : BitVec 1 := Scalar.cmpi .eq c4_i32_280 c0_i32_281
  let c1_i32_282 : BitVec 32 := 1#32
  let v317 : BitVec 32 := Scalar.select v316 c1_i32_282 c4_i32_280
  let v318 : BitVec 32 := Scalar.remsi v315 v317
  let c0_i32_284 : BitVec 32 := 0#32
  let v320 : BitVec 1 := Scalar.cmpi .slt v318 c0_i32_284
  let c0_i32_285 : BitVec 32 := 0#32
  let v321 : BitVec 1 := Scalar.cmpi .slt v317 c0_i32_285
  let v322 : BitVec 1 := Scalar.xori v320 v321
  let c0_i32_283 : BitVec 32 := 0#32
  let v319 : BitVec 1 := Scalar.cmpi .ne v318 c0_i32_283
  let v323 : BitVec 1 := Scalar.andi v322 v319
  let v324 : BitVec 32 := Scalar.addi v318 v317
  let v325 : BitVec 32 := Scalar.select v323 v324 v318
  let c1_i32_303 : BitVec 32 := 1#32
  let v329 : BitVec 32 := Scalar.muli v325 c1_i32_303
  let v330 : BitVec 32 := Scalar.addi c0_i32_304 v329
  v330.toNat
def k0_dev11 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_320 : BitVec 32 := 1#32
  let v357 : BitVec 32 := Scalar.addi v2 c1_i32_320
  let c4_i32_321 : BitVec 32 := 4#32
  let c0_i32_322 : BitVec 32 := 0#32
  let v358 : BitVec 1 := Scalar.cmpi .eq c4_i32_321 c0_i32_322
  let c1_i32_323 : BitVec 32 := 1#32
  let v359 : BitVec 32 := Scalar.select v358 c1_i32_323 c4_i32_321
  let v360 : BitVec 32 := Scalar.remsi v357 v359
  let c0_i32_325 : BitVec 32 := 0#32
  let v362 : BitVec 1 := Scalar.cmpi .slt v360 c0_i32_325
  let c0_i32_326 : BitVec 32 := 0#32
  let v363 : BitVec 1 := Scalar.cmpi .slt v359 c0_i32_326
  let v364 : BitVec 1 := Scalar.xori v362 v363
  let c0_i32_324 : BitVec 32 := 0#32
  let v361 : BitVec 1 := Scalar.cmpi .ne v360 c0_i32_324
  let v365 : BitVec 1 := Scalar.andi v364 v361
  let v366 : BitVec 32 := Scalar.addi v360 v359
  let v367 : BitVec 32 := Scalar.select v365 v366 v360
  let c1_i32_344 : BitVec 32 := 1#32
  let v371 : BitVec 32 := Scalar.muli v367 c1_i32_344
  let v372 : BitVec 32 := Scalar.addi c0_i32_345 v371
  v372.toNat
def k0_dev12 (d0 : Dev nD) : Nat :=
  let c0_i32_386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_361 : BitVec 32 := 3#32
  let v399 : BitVec 32 := Scalar.addi v2 c3_i32_361
  let c4_i32_362 : BitVec 32 := 4#32
  let c0_i32_363 : BitVec 32 := 0#32
  let v400 : BitVec 1 := Scalar.cmpi .eq c4_i32_362 c0_i32_363
  let c1_i32_364 : BitVec 32 := 1#32
  let v401 : BitVec 32 := Scalar.select v400 c1_i32_364 c4_i32_362
  let v402 : BitVec 32 := Scalar.remsi v399 v401
  let c0_i32_366 : BitVec 32 := 0#32
  let v404 : BitVec 1 := Scalar.cmpi .slt v402 c0_i32_366
  let c0_i32_367 : BitVec 32 := 0#32
  let v405 : BitVec 1 := Scalar.cmpi .slt v401 c0_i32_367
  let v406 : BitVec 1 := Scalar.xori v404 v405
  let c0_i32_365 : BitVec 32 := 0#32
  let v403 : BitVec 1 := Scalar.cmpi .ne v402 c0_i32_365
  let v407 : BitVec 1 := Scalar.andi v406 v403
  let v408 : BitVec 32 := Scalar.addi v402 v401
  let v409 : BitVec 32 := Scalar.select v407 v408 v402
  let c1_i32_385 : BitVec 32 := 1#32
  let v413 : BitVec 32 := Scalar.muli v409 c1_i32_385
  let v414 : BitVec 32 := Scalar.addi c0_i32_386 v413
  v414.toNat
def k0_dev13 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_401 : BitVec 32 := 2#32
  let v441 : BitVec 32 := Scalar.addi v2 c2_i32_401
  let c4_i32_402 : BitVec 32 := 4#32
  let c0_i32_403 : BitVec 32 := 0#32
  let v442 : BitVec 1 := Scalar.cmpi .eq c4_i32_402 c0_i32_403
  let c1_i32_404 : BitVec 32 := 1#32
  let v443 : BitVec 32 := Scalar.select v442 c1_i32_404 c4_i32_402
  let v444 : BitVec 32 := Scalar.remsi v441 v443
  let c0_i32_406 : BitVec 32 := 0#32
  let v446 : BitVec 1 := Scalar.cmpi .slt v444 c0_i32_406
  let c0_i32_407 : BitVec 32 := 0#32
  let v447 : BitVec 1 := Scalar.cmpi .slt v443 c0_i32_407
  let v448 : BitVec 1 := Scalar.xori v446 v447
  let c0_i32_405 : BitVec 32 := 0#32
  let v445 : BitVec 1 := Scalar.cmpi .ne v444 c0_i32_405
  let v449 : BitVec 1 := Scalar.andi v448 v445
  let v450 : BitVec 32 := Scalar.addi v444 v443
  let v451 : BitVec 32 := Scalar.select v449 v450 v444
  let c1_i32_425 : BitVec 32 := 1#32
  let v455 : BitVec 32 := Scalar.muli v451 c1_i32_425
  let v456 : BitVec 32 := Scalar.addi c0_i32_426 v455
  v456.toNat
def k0_dev14 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_442 : BitVec 32 := 1#32
  let v483 : BitVec 32 := Scalar.addi v2 c1_i32_442
  let c4_i32_443 : BitVec 32 := 4#32
  let c0_i32_444 : BitVec 32 := 0#32
  let v484 : BitVec 1 := Scalar.cmpi .eq c4_i32_443 c0_i32_444
  let c1_i32_445 : BitVec 32 := 1#32
  let v485 : BitVec 32 := Scalar.select v484 c1_i32_445 c4_i32_443
  let v486 : BitVec 32 := Scalar.remsi v483 v485
  let c0_i32_447 : BitVec 32 := 0#32
  let v488 : BitVec 1 := Scalar.cmpi .slt v486 c0_i32_447
  let c0_i32_448 : BitVec 32 := 0#32
  let v489 : BitVec 1 := Scalar.cmpi .slt v485 c0_i32_448
  let v490 : BitVec 1 := Scalar.xori v488 v489
  let c0_i32_446 : BitVec 32 := 0#32
  let v487 : BitVec 1 := Scalar.cmpi .ne v486 c0_i32_446
  let v491 : BitVec 1 := Scalar.andi v490 v487
  let v492 : BitVec 32 := Scalar.addi v486 v485
  let v493 : BitVec 32 := Scalar.select v491 v492 v486
  let c1_i32_466 : BitVec 32 := 1#32
  let v497 : BitVec 32 := Scalar.muli v493 c1_i32_466
  let v498 : BitVec 32 := Scalar.addi c0_i32_467 v497
  v498.toNat
def k0_dev15 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_483 : BitVec 32 := 3#32
  let v525 : BitVec 32 := Scalar.addi v2 c3_i32_483
  let c4_i32_484 : BitVec 32 := 4#32
  let c0_i32_485 : BitVec 32 := 0#32
  let v526 : BitVec 1 := Scalar.cmpi .eq c4_i32_484 c0_i32_485
  let c1_i32_486 : BitVec 32 := 1#32
  let v527 : BitVec 32 := Scalar.select v526 c1_i32_486 c4_i32_484
  let v528 : BitVec 32 := Scalar.remsi v525 v527
  let c0_i32_488 : BitVec 32 := 0#32
  let v530 : BitVec 1 := Scalar.cmpi .slt v528 c0_i32_488
  let c0_i32_489 : BitVec 32 := 0#32
  let v531 : BitVec 1 := Scalar.cmpi .slt v527 c0_i32_489
  let v532 : BitVec 1 := Scalar.xori v530 v531
  let c0_i32_487 : BitVec 32 := 0#32
  let v529 : BitVec 1 := Scalar.cmpi .ne v528 c0_i32_487
  let v533 : BitVec 1 := Scalar.andi v532 v529
  let v534 : BitVec 32 := Scalar.addi v528 v527
  let v535 : BitVec 32 := Scalar.select v533 v534 v528
  let c1_i32_507 : BitVec 32 := 1#32
  let v539 : BitVec 32 := Scalar.muli v535 c1_i32_507
  let v540 : BitVec 32 := Scalar.addi c0_i32_508 v539
  v540.toNat
def k0_off2 (d0 : Dev nD) (c0_i32_514 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_513 : BitVec 32 := 128#32
  let v549 : BitVec 32 := Scalar.muli v2 c128_i32_513
  let v550 : BitVec 32 := Scalar.addi v549 c0_i32_514
  let v551 : Index := Scalar.indexCast v550
  let c0_515 : Index := 0#32
  ![v551.toNat, 0]
def k0_dev16 (d0 : Dev nD) : Nat :=
  let c0_i32_626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_607 : BitVec 32 := 2#32
  let v619 : BitVec 32 := Scalar.addi v2 c2_i32_607
  let c4_i32_608 : BitVec 32 := 4#32
  let c0_i32_609 : BitVec 32 := 0#32
  let v620 : BitVec 1 := Scalar.cmpi .eq c4_i32_608 c0_i32_609
  let c1_i32_610 : BitVec 32 := 1#32
  let v621 : BitVec 32 := Scalar.select v620 c1_i32_610 c4_i32_608
  let v622 : BitVec 32 := Scalar.remsi v619 v621
  let c0_i32_612 : BitVec 32 := 0#32
  let v624 : BitVec 1 := Scalar.cmpi .slt v622 c0_i32_612
  let c0_i32_613 : BitVec 32 := 0#32
  let v625 : BitVec 1 := Scalar.cmpi .slt v621 c0_i32_613
  let v626 : BitVec 1 := Scalar.xori v624 v625
  let c0_i32_611 : BitVec 32 := 0#32
  let v623 : BitVec 1 := Scalar.cmpi .ne v622 c0_i32_611
  let v627 : BitVec 1 := Scalar.andi v626 v623
  let v628 : BitVec 32 := Scalar.addi v622 v621
  let v629 : BitVec 32 := Scalar.select v627 v628 v622
  let c1_i32_625 : BitVec 32 := 1#32
  let v630 : BitVec 32 := Scalar.muli v629 c1_i32_625
  let v631 : BitVec 32 := Scalar.addi c0_i32_626 v630
  v631.toNat
def k0_dev17 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_631 : BitVec 32 := 1#32
  let v640 : BitVec 32 := Scalar.addi v2 c1_i32_631
  let c4_i32_632 : BitVec 32 := 4#32
  let c0_i32_633 : BitVec 32 := 0#32
  let v641 : BitVec 1 := Scalar.cmpi .eq c4_i32_632 c0_i32_633
  let c1_i32_634 : BitVec 32 := 1#32
  let v642 : BitVec 32 := Scalar.select v641 c1_i32_634 c4_i32_632
  let v643 : BitVec 32 := Scalar.remsi v640 v642
  let c0_i32_636 : BitVec 32 := 0#32
  let v645 : BitVec 1 := Scalar.cmpi .slt v643 c0_i32_636
  let c0_i32_637 : BitVec 32 := 0#32
  let v646 : BitVec 1 := Scalar.cmpi .slt v642 c0_i32_637
  let v647 : BitVec 1 := Scalar.xori v645 v646
  let c0_i32_635 : BitVec 32 := 0#32
  let v644 : BitVec 1 := Scalar.cmpi .ne v643 c0_i32_635
  let v648 : BitVec 1 := Scalar.andi v647 v644
  let v649 : BitVec 32 := Scalar.addi v643 v642
  let v650 : BitVec 32 := Scalar.select v648 v649 v643
  let c1_i32_649 : BitVec 32 := 1#32
  let v651 : BitVec 32 := Scalar.muli v650 c1_i32_649
  let v652 : BitVec 32 := Scalar.addi c0_i32_650 v651
  v652.toNat
def k0_dev18 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_655 : BitVec 32 := 3#32
  let v661 : BitVec 32 := Scalar.addi v2 c3_i32_655
  let c4_i32_656 : BitVec 32 := 4#32
  let c0_i32_657 : BitVec 32 := 0#32
  let v662 : BitVec 1 := Scalar.cmpi .eq c4_i32_656 c0_i32_657
  let c1_i32_658 : BitVec 32 := 1#32
  let v663 : BitVec 32 := Scalar.select v662 c1_i32_658 c4_i32_656
  let v664 : BitVec 32 := Scalar.remsi v661 v663
  let c0_i32_660 : BitVec 32 := 0#32
  let v666 : BitVec 1 := Scalar.cmpi .slt v664 c0_i32_660
  let c0_i32_661 : BitVec 32 := 0#32
  let v667 : BitVec 1 := Scalar.cmpi .slt v663 c0_i32_661
  let v668 : BitVec 1 := Scalar.xori v666 v667
  let c0_i32_659 : BitVec 32 := 0#32
  let v665 : BitVec 1 := Scalar.cmpi .ne v664 c0_i32_659
  let v669 : BitVec 1 := Scalar.andi v668 v665
  let v670 : BitVec 32 := Scalar.addi v664 v663
  let v671 : BitVec 32 := Scalar.select v669 v670 v664
  let c1_i32_673 : BitVec 32 := 1#32
  let v672 : BitVec 32 := Scalar.muli v671 c1_i32_673
  let v673 : BitVec 32 := Scalar.addi c0_i32_674 v672
  v673.toNat
def k0_dev19 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_759 : BitVec 32 := 2#32
  let v729 : BitVec 32 := Scalar.addi v2 c2_i32_759
  let c4_i32_760 : BitVec 32 := 4#32
  let c0_i32_761 : BitVec 32 := 0#32
  let v730 : BitVec 1 := Scalar.cmpi .eq c4_i32_760 c0_i32_761
  let c1_i32_762 : BitVec 32 := 1#32
  let v731 : BitVec 32 := Scalar.select v730 c1_i32_762 c4_i32_760
  let v732 : BitVec 32 := Scalar.remsi v729 v731
  let c0_i32_764 : BitVec 32 := 0#32
  let v734 : BitVec 1 := Scalar.cmpi .slt v732 c0_i32_764
  let c0_i32_765 : BitVec 32 := 0#32
  let v735 : BitVec 1 := Scalar.cmpi .slt v731 c0_i32_765
  let v736 : BitVec 1 := Scalar.xori v734 v735
  let c0_i32_763 : BitVec 32 := 0#32
  let v733 : BitVec 1 := Scalar.cmpi .ne v732 c0_i32_763
  let v737 : BitVec 1 := Scalar.andi v736 v733
  let v738 : BitVec 32 := Scalar.addi v732 v731
  let v739 : BitVec 32 := Scalar.select v737 v738 v732
  let c1_i32_777 : BitVec 32 := 1#32
  let v740 : BitVec 32 := Scalar.muli v739 c1_i32_777
  let v741 : BitVec 32 := Scalar.addi c0_i32_778 v740
  v741.toNat
def k0_dev20 (d0 : Dev nD) : Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_783 : BitVec 32 := 1#32
  let v750 : BitVec 32 := Scalar.addi v2 c1_i32_783
  let c4_i32_784 : BitVec 32 := 4#32
  let c0_i32_785 : BitVec 32 := 0#32
  let v751 : BitVec 1 := Scalar.cmpi .eq c4_i32_784 c0_i32_785
  let c1_i32_786 : BitVec 32 := 1#32
  let v752 : BitVec 32 := Scalar.select v751 c1_i32_786 c4_i32_784
  let v753 : BitVec 32 := Scalar.remsi v750 v752
  let c0_i32_788 : BitVec 32 := 0#32
  let v755 : BitVec 1 := Scalar.cmpi .slt v753 c0_i32_788
  let c0_i32_789 : BitVec 32 := 0#32
  let v756 : BitVec 1 := Scalar.cmpi .slt v752 c0_i32_789
  let v757 : BitVec 1 := Scalar.xori v755 v756
  let c0_i32_787 : BitVec 32 := 0#32
  let v754 : BitVec 1 := Scalar.cmpi .ne v753 c0_i32_787
  let v758 : BitVec 1 := Scalar.andi v757 v754
  let v759 : BitVec 32 := Scalar.addi v753 v752
  let v760 : BitVec 32 := Scalar.select v758 v759 v753
  let c1_i32_801 : BitVec 32 := 1#32
  let v761 : BitVec 32 := Scalar.muli v760 c1_i32_801
  let v762 : BitVec 32 := Scalar.addi c0_i32_802 v761
  v762.toNat
def k0_dev21 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_807 : BitVec 32 := 3#32
  let v771 : BitVec 32 := Scalar.addi v2 c3_i32_807
  let c4_i32_808 : BitVec 32 := 4#32
  let c0_i32_809 : BitVec 32 := 0#32
  let v772 : BitVec 1 := Scalar.cmpi .eq c4_i32_808 c0_i32_809
  let c1_i32_810 : BitVec 32 := 1#32
  let v773 : BitVec 32 := Scalar.select v772 c1_i32_810 c4_i32_808
  let v774 : BitVec 32 := Scalar.remsi v771 v773
  let c0_i32_812 : BitVec 32 := 0#32
  let v776 : BitVec 1 := Scalar.cmpi .slt v774 c0_i32_812
  let c0_i32_813 : BitVec 32 := 0#32
  let v777 : BitVec 1 := Scalar.cmpi .slt v773 c0_i32_813
  let v778 : BitVec 1 := Scalar.xori v776 v777
  let c0_i32_811 : BitVec 32 := 0#32
  let v775 : BitVec 1 := Scalar.cmpi .ne v774 c0_i32_811
  let v779 : BitVec 1 := Scalar.andi v778 v775
  let v780 : BitVec 32 := Scalar.addi v774 v773
  let v781 : BitVec 32 := Scalar.select v779 v780 v774
  let c1_i32_825 : BitVec 32 := 1#32
  let v782 : BitVec 32 := Scalar.muli v781 c1_i32_825
  let v783 : BitVec 32 := Scalar.addi c0_i32_826 v782
  v783.toNat
def k0_dev22 (d0 : Dev nD) : Nat :=
  let c0_i32_930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_911 : BitVec 32 := 2#32
  let v839 : BitVec 32 := Scalar.addi v2 c2_i32_911
  let c4_i32_912 : BitVec 32 := 4#32
  let c0_i32_913 : BitVec 32 := 0#32
  let v840 : BitVec 1 := Scalar.cmpi .eq c4_i32_912 c0_i32_913
  let c1_i32_914 : BitVec 32 := 1#32
  let v841 : BitVec 32 := Scalar.select v840 c1_i32_914 c4_i32_912
  let v842 : BitVec 32 := Scalar.remsi v839 v841
  let c0_i32_916 : BitVec 32 := 0#32
  let v844 : BitVec 1 := Scalar.cmpi .slt v842 c0_i32_916
  let c0_i32_917 : BitVec 32 := 0#32
  let v845 : BitVec 1 := Scalar.cmpi .slt v841 c0_i32_917
  let v846 : BitVec 1 := Scalar.xori v844 v845
  let c0_i32_915 : BitVec 32 := 0#32
  let v843 : BitVec 1 := Scalar.cmpi .ne v842 c0_i32_915
  let v847 : BitVec 1 := Scalar.andi v846 v843
  let v848 : BitVec 32 := Scalar.addi v842 v841
  let v849 : BitVec 32 := Scalar.select v847 v848 v842
  let c1_i32_929 : BitVec 32 := 1#32
  let v850 : BitVec 32 := Scalar.muli v849 c1_i32_929
  let v851 : BitVec 32 := Scalar.addi c0_i32_930 v850
  v851.toNat
def k0_dev23 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_935 : BitVec 32 := 1#32
  let v860 : BitVec 32 := Scalar.addi v2 c1_i32_935
  let c4_i32_936 : BitVec 32 := 4#32
  let c0_i32_937 : BitVec 32 := 0#32
  let v861 : BitVec 1 := Scalar.cmpi .eq c4_i32_936 c0_i32_937
  let c1_i32_938 : BitVec 32 := 1#32
  let v862 : BitVec 32 := Scalar.select v861 c1_i32_938 c4_i32_936
  let v863 : BitVec 32 := Scalar.remsi v860 v862
  let c0_i32_940 : BitVec 32 := 0#32
  let v865 : BitVec 1 := Scalar.cmpi .slt v863 c0_i32_940
  let c0_i32_941 : BitVec 32 := 0#32
  let v866 : BitVec 1 := Scalar.cmpi .slt v862 c0_i32_941
  let v867 : BitVec 1 := Scalar.xori v865 v866
  let c0_i32_939 : BitVec 32 := 0#32
  let v864 : BitVec 1 := Scalar.cmpi .ne v863 c0_i32_939
  let v868 : BitVec 1 := Scalar.andi v867 v864
  let v869 : BitVec 32 := Scalar.addi v863 v862
  let v870 : BitVec 32 := Scalar.select v868 v869 v863
  let c1_i32_953 : BitVec 32 := 1#32
  let v871 : BitVec 32 := Scalar.muli v870 c1_i32_953
  let v872 : BitVec 32 := Scalar.addi c0_i32_954 v871
  v872.toNat
def k0_dev24 (d0 : Dev nD) : Nat :=
  let c0_i32_978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_959 : BitVec 32 := 3#32
  let v881 : BitVec 32 := Scalar.addi v2 c3_i32_959
  let c4_i32_960 : BitVec 32 := 4#32
  let c0_i32_961 : BitVec 32 := 0#32
  let v882 : BitVec 1 := Scalar.cmpi .eq c4_i32_960 c0_i32_961
  let c1_i32_962 : BitVec 32 := 1#32
  let v883 : BitVec 32 := Scalar.select v882 c1_i32_962 c4_i32_960
  let v884 : BitVec 32 := Scalar.remsi v881 v883
  let c0_i32_964 : BitVec 32 := 0#32
  let v886 : BitVec 1 := Scalar.cmpi .slt v884 c0_i32_964
  let c0_i32_965 : BitVec 32 := 0#32
  let v887 : BitVec 1 := Scalar.cmpi .slt v883 c0_i32_965
  let v888 : BitVec 1 := Scalar.xori v886 v887
  let c0_i32_963 : BitVec 32 := 0#32
  let v885 : BitVec 1 := Scalar.cmpi .ne v884 c0_i32_963
  let v889 : BitVec 1 := Scalar.andi v888 v885
  let v890 : BitVec 32 := Scalar.addi v884 v883
  let v891 : BitVec 32 := Scalar.select v889 v890 v884
  let c1_i32_977 : BitVec 32 := 1#32
  let v892 : BitVec 32 := Scalar.muli v891 c1_i32_977
  let v893 : BitVec 32 := Scalar.addi c0_i32_978 v892
  v893.toNat
def k0_dev25 (d0 : Dev nD) : Nat :=
  let c0_i32_1082 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1063 : BitVec 32 := 2#32
  let v949 : BitVec 32 := Scalar.addi v2 c2_i32_1063
  let c4_i32_1064 : BitVec 32 := 4#32
  let c0_i32_1065 : BitVec 32 := 0#32
  let v950 : BitVec 1 := Scalar.cmpi .eq c4_i32_1064 c0_i32_1065
  let c1_i32_1066 : BitVec 32 := 1#32
  let v951 : BitVec 32 := Scalar.select v950 c1_i32_1066 c4_i32_1064
  let v952 : BitVec 32 := Scalar.remsi v949 v951
  let c0_i32_1068 : BitVec 32 := 0#32
  let v954 : BitVec 1 := Scalar.cmpi .slt v952 c0_i32_1068
  let c0_i32_1069 : BitVec 32 := 0#32
  let v955 : BitVec 1 := Scalar.cmpi .slt v951 c0_i32_1069
  let v956 : BitVec 1 := Scalar.xori v954 v955
  let c0_i32_1067 : BitVec 32 := 0#32
  let v953 : BitVec 1 := Scalar.cmpi .ne v952 c0_i32_1067
  let v957 : BitVec 1 := Scalar.andi v956 v953
  let v958 : BitVec 32 := Scalar.addi v952 v951
  let v959 : BitVec 32 := Scalar.select v957 v958 v952
  let c1_i32_1081 : BitVec 32 := 1#32
  let v960 : BitVec 32 := Scalar.muli v959 c1_i32_1081
  let v961 : BitVec 32 := Scalar.addi c0_i32_1082 v960
  v961.toNat
def k0_dev26 (d0 : Dev nD) : Nat :=
  let c0_i32_1106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1087 : BitVec 32 := 1#32
  let v970 : BitVec 32 := Scalar.addi v2 c1_i32_1087
  let c4_i32_1088 : BitVec 32 := 4#32
  let c0_i32_1089 : BitVec 32 := 0#32
  let v971 : BitVec 1 := Scalar.cmpi .eq c4_i32_1088 c0_i32_1089
  let c1_i32_1090 : BitVec 32 := 1#32
  let v972 : BitVec 32 := Scalar.select v971 c1_i32_1090 c4_i32_1088
  let v973 : BitVec 32 := Scalar.remsi v970 v972
  let c0_i32_1092 : BitVec 32 := 0#32
  let v975 : BitVec 1 := Scalar.cmpi .slt v973 c0_i32_1092
  let c0_i32_1093 : BitVec 32 := 0#32
  let v976 : BitVec 1 := Scalar.cmpi .slt v972 c0_i32_1093
  let v977 : BitVec 1 := Scalar.xori v975 v976
  let c0_i32_1091 : BitVec 32 := 0#32
  let v974 : BitVec 1 := Scalar.cmpi .ne v973 c0_i32_1091
  let v978 : BitVec 1 := Scalar.andi v977 v974
  let v979 : BitVec 32 := Scalar.addi v973 v972
  let v980 : BitVec 32 := Scalar.select v978 v979 v973
  let c1_i32_1105 : BitVec 32 := 1#32
  let v981 : BitVec 32 := Scalar.muli v980 c1_i32_1105
  let v982 : BitVec 32 := Scalar.addi c0_i32_1106 v981
  v982.toNat
def k0_dev27 (d0 : Dev nD) : Nat :=
  let c0_i32_1130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1111 : BitVec 32 := 3#32
  let v991 : BitVec 32 := Scalar.addi v2 c3_i32_1111
  let c4_i32_1112 : BitVec 32 := 4#32
  let c0_i32_1113 : BitVec 32 := 0#32
  let v992 : BitVec 1 := Scalar.cmpi .eq c4_i32_1112 c0_i32_1113
  let c1_i32_1114 : BitVec 32 := 1#32
  let v993 : BitVec 32 := Scalar.select v992 c1_i32_1114 c4_i32_1112
  let v994 : BitVec 32 := Scalar.remsi v991 v993
  let c0_i32_1116 : BitVec 32 := 0#32
  let v996 : BitVec 1 := Scalar.cmpi .slt v994 c0_i32_1116
  let c0_i32_1117 : BitVec 32 := 0#32
  let v997 : BitVec 1 := Scalar.cmpi .slt v993 c0_i32_1117
  let v998 : BitVec 1 := Scalar.xori v996 v997
  let c0_i32_1115 : BitVec 32 := 0#32
  let v995 : BitVec 1 := Scalar.cmpi .ne v994 c0_i32_1115
  let v999 : BitVec 1 := Scalar.andi v998 v995
  let v1000 : BitVec 32 := Scalar.addi v994 v993
  let v1001 : BitVec 32 := Scalar.select v999 v1000 v994
  let c1_i32_1129 : BitVec 32 := 1#32
  let v1002 : BitVec 32 := Scalar.muli v1001 c1_i32_1129
  let v1003 : BitVec 32 := Scalar.addi c0_i32_1130 v1002
  v1003.toNat
def k0_dev28 (d0 : Dev nD) : Nat :=
  let c0_i32_1191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1166 : BitVec 32 := 1#32
  let v1031 : BitVec 32 := Scalar.addi v2 c1_i32_1166
  let c4_i32_1167 : BitVec 32 := 4#32
  let c0_i32_1168 : BitVec 32 := 0#32
  let v1032 : BitVec 1 := Scalar.cmpi .eq c4_i32_1167 c0_i32_1168
  let c1_i32_1169 : BitVec 32 := 1#32
  let v1033 : BitVec 32 := Scalar.select v1032 c1_i32_1169 c4_i32_1167
  let v1034 : BitVec 32 := Scalar.remsi v1031 v1033
  let c0_i32_1171 : BitVec 32 := 0#32
  let v1036 : BitVec 1 := Scalar.cmpi .slt v1034 c0_i32_1171
  let c0_i32_1172 : BitVec 32 := 0#32
  let v1037 : BitVec 1 := Scalar.cmpi .slt v1033 c0_i32_1172
  let v1038 : BitVec 1 := Scalar.xori v1036 v1037
  let c0_i32_1170 : BitVec 32 := 0#32
  let v1035 : BitVec 1 := Scalar.cmpi .ne v1034 c0_i32_1170
  let v1039 : BitVec 1 := Scalar.andi v1038 v1035
  let v1040 : BitVec 32 := Scalar.addi v1034 v1033
  let v1041 : BitVec 32 := Scalar.select v1039 v1040 v1034
  let c1_i32_1190 : BitVec 32 := 1#32
  let v1045 : BitVec 32 := Scalar.muli v1041 c1_i32_1190
  let v1046 : BitVec 32 := Scalar.addi c0_i32_1191 v1045
  v1046.toNat
def k0_dev29 (d0 : Dev nD) : Nat :=
  let c0_i32_1246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1221 : BitVec 32 := 2#32
  let v1069 : BitVec 32 := Scalar.addi v2 c2_i32_1221
  let c4_i32_1222 : BitVec 32 := 4#32
  let c0_i32_1223 : BitVec 32 := 0#32
  let v1070 : BitVec 1 := Scalar.cmpi .eq c4_i32_1222 c0_i32_1223
  let c1_i32_1224 : BitVec 32 := 1#32
  let v1071 : BitVec 32 := Scalar.select v1070 c1_i32_1224 c4_i32_1222
  let v1072 : BitVec 32 := Scalar.remsi v1069 v1071
  let c0_i32_1226 : BitVec 32 := 0#32
  let v1074 : BitVec 1 := Scalar.cmpi .slt v1072 c0_i32_1226
  let c0_i32_1227 : BitVec 32 := 0#32
  let v1075 : BitVec 1 := Scalar.cmpi .slt v1071 c0_i32_1227
  let v1076 : BitVec 1 := Scalar.xori v1074 v1075
  let c0_i32_1225 : BitVec 32 := 0#32
  let v1073 : BitVec 1 := Scalar.cmpi .ne v1072 c0_i32_1225
  let v1077 : BitVec 1 := Scalar.andi v1076 v1073
  let v1078 : BitVec 32 := Scalar.addi v1072 v1071
  let v1079 : BitVec 32 := Scalar.select v1077 v1078 v1072
  let c1_i32_1245 : BitVec 32 := 1#32
  let v1083 : BitVec 32 := Scalar.muli v1079 c1_i32_1245
  let v1084 : BitVec 32 := Scalar.addi c0_i32_1246 v1083
  v1084.toNat
def k0_dev30 (d0 : Dev nD) : Nat :=
  let c0_i32_1301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1276 : BitVec 32 := 3#32
  let v1107 : BitVec 32 := Scalar.addi v2 c3_i32_1276
  let c4_i32_1277 : BitVec 32 := 4#32
  let c0_i32_1278 : BitVec 32 := 0#32
  let v1108 : BitVec 1 := Scalar.cmpi .eq c4_i32_1277 c0_i32_1278
  let c1_i32_1279 : BitVec 32 := 1#32
  let v1109 : BitVec 32 := Scalar.select v1108 c1_i32_1279 c4_i32_1277
  let v1110 : BitVec 32 := Scalar.remsi v1107 v1109
  let c0_i32_1281 : BitVec 32 := 0#32
  let v1112 : BitVec 1 := Scalar.cmpi .slt v1110 c0_i32_1281
  let c0_i32_1282 : BitVec 32 := 0#32
  let v1113 : BitVec 1 := Scalar.cmpi .slt v1109 c0_i32_1282
  let v1114 : BitVec 1 := Scalar.xori v1112 v1113
  let c0_i32_1280 : BitVec 32 := 0#32
  let v1111 : BitVec 1 := Scalar.cmpi .ne v1110 c0_i32_1280
  let v1115 : BitVec 1 := Scalar.andi v1114 v1111
  let v1116 : BitVec 32 := Scalar.addi v1110 v1109
  let v1117 : BitVec 32 := Scalar.select v1115 v1116 v1110
  let c1_i32_1300 : BitVec 32 := 1#32
  let v1121 : BitVec 32 := Scalar.muli v1117 c1_i32_1300
  let v1122 : BitVec 32 := Scalar.addi c0_i32_1301 v1121
  v1122.toNat
def k0_dev31 (d0 : Dev nD) : Nat :=
  let c0_i32_1356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1331 : BitVec 32 := 1#32
  let v1145 : BitVec 32 := Scalar.addi v2 c1_i32_1331
  let c4_i32_1332 : BitVec 32 := 4#32
  let c0_i32_1333 : BitVec 32 := 0#32
  let v1146 : BitVec 1 := Scalar.cmpi .eq c4_i32_1332 c0_i32_1333
  let c1_i32_1334 : BitVec 32 := 1#32
  let v1147 : BitVec 32 := Scalar.select v1146 c1_i32_1334 c4_i32_1332
  let v1148 : BitVec 32 := Scalar.remsi v1145 v1147
  let c0_i32_1336 : BitVec 32 := 0#32
  let v1150 : BitVec 1 := Scalar.cmpi .slt v1148 c0_i32_1336
  let c0_i32_1337 : BitVec 32 := 0#32
  let v1151 : BitVec 1 := Scalar.cmpi .slt v1147 c0_i32_1337
  let v1152 : BitVec 1 := Scalar.xori v1150 v1151
  let c0_i32_1335 : BitVec 32 := 0#32
  let v1149 : BitVec 1 := Scalar.cmpi .ne v1148 c0_i32_1335
  let v1153 : BitVec 1 := Scalar.andi v1152 v1149
  let v1154 : BitVec 32 := Scalar.addi v1148 v1147
  let v1155 : BitVec 32 := Scalar.select v1153 v1154 v1148
  let c1_i32_1355 : BitVec 32 := 1#32
  let v1159 : BitVec 32 := Scalar.muli v1155 c1_i32_1355
  let v1160 : BitVec 32 := Scalar.addi c0_i32_1356 v1159
  v1160.toNat
def k0_dev32 (d0 : Dev nD) : Nat :=
  let c0_i32_1411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1386 : BitVec 32 := 2#32
  let v1183 : BitVec 32 := Scalar.addi v2 c2_i32_1386
  let c4_i32_1387 : BitVec 32 := 4#32
  let c0_i32_1388 : BitVec 32 := 0#32
  let v1184 : BitVec 1 := Scalar.cmpi .eq c4_i32_1387 c0_i32_1388
  let c1_i32_1389 : BitVec 32 := 1#32
  let v1185 : BitVec 32 := Scalar.select v1184 c1_i32_1389 c4_i32_1387
  let v1186 : BitVec 32 := Scalar.remsi v1183 v1185
  let c0_i32_1391 : BitVec 32 := 0#32
  let v1188 : BitVec 1 := Scalar.cmpi .slt v1186 c0_i32_1391
  let c0_i32_1392 : BitVec 32 := 0#32
  let v1189 : BitVec 1 := Scalar.cmpi .slt v1185 c0_i32_1392
  let v1190 : BitVec 1 := Scalar.xori v1188 v1189
  let c0_i32_1390 : BitVec 32 := 0#32
  let v1187 : BitVec 1 := Scalar.cmpi .ne v1186 c0_i32_1390
  let v1191 : BitVec 1 := Scalar.andi v1190 v1187
  let v1192 : BitVec 32 := Scalar.addi v1186 v1185
  let v1193 : BitVec 32 := Scalar.select v1191 v1192 v1186
  let c1_i32_1410 : BitVec 32 := 1#32
  let v1197 : BitVec 32 := Scalar.muli v1193 c1_i32_1410
  let v1198 : BitVec 32 := Scalar.addi c0_i32_1411 v1197
  v1198.toNat
def k0_dev33 (d0 : Dev nD) : Nat :=
  let c0_i32_1466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1441 : BitVec 32 := 3#32
  let v1221 : BitVec 32 := Scalar.addi v2 c3_i32_1441
  let c4_i32_1442 : BitVec 32 := 4#32
  let c0_i32_1443 : BitVec 32 := 0#32
  let v1222 : BitVec 1 := Scalar.cmpi .eq c4_i32_1442 c0_i32_1443
  let c1_i32_1444 : BitVec 32 := 1#32
  let v1223 : BitVec 32 := Scalar.select v1222 c1_i32_1444 c4_i32_1442
  let v1224 : BitVec 32 := Scalar.remsi v1221 v1223
  let c0_i32_1446 : BitVec 32 := 0#32
  let v1226 : BitVec 1 := Scalar.cmpi .slt v1224 c0_i32_1446
  let c0_i32_1447 : BitVec 32 := 0#32
  let v1227 : BitVec 1 := Scalar.cmpi .slt v1223 c0_i32_1447
  let v1228 : BitVec 1 := Scalar.xori v1226 v1227
  let c0_i32_1445 : BitVec 32 := 0#32
  let v1225 : BitVec 1 := Scalar.cmpi .ne v1224 c0_i32_1445
  let v1229 : BitVec 1 := Scalar.andi v1228 v1225
  let v1230 : BitVec 32 := Scalar.addi v1224 v1223
  let v1231 : BitVec 32 := Scalar.select v1229 v1230 v1224
  let c1_i32_1465 : BitVec 32 := 1#32
  let v1235 : BitVec 32 := Scalar.muli v1231 c1_i32_1465
  let v1236 : BitVec 32 := Scalar.addi c0_i32_1466 v1235
  v1236.toNat
def k0_dev34 (d0 : Dev nD) : Nat :=
  let c0_i32_1521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1496 : BitVec 32 := 1#32
  let v1259 : BitVec 32 := Scalar.addi v2 c1_i32_1496
  let c4_i32_1497 : BitVec 32 := 4#32
  let c0_i32_1498 : BitVec 32 := 0#32
  let v1260 : BitVec 1 := Scalar.cmpi .eq c4_i32_1497 c0_i32_1498
  let c1_i32_1499 : BitVec 32 := 1#32
  let v1261 : BitVec 32 := Scalar.select v1260 c1_i32_1499 c4_i32_1497
  let v1262 : BitVec 32 := Scalar.remsi v1259 v1261
  let c0_i32_1501 : BitVec 32 := 0#32
  let v1264 : BitVec 1 := Scalar.cmpi .slt v1262 c0_i32_1501
  let c0_i32_1502 : BitVec 32 := 0#32
  let v1265 : BitVec 1 := Scalar.cmpi .slt v1261 c0_i32_1502
  let v1266 : BitVec 1 := Scalar.xori v1264 v1265
  let c0_i32_1500 : BitVec 32 := 0#32
  let v1263 : BitVec 1 := Scalar.cmpi .ne v1262 c0_i32_1500
  let v1267 : BitVec 1 := Scalar.andi v1266 v1263
  let v1268 : BitVec 32 := Scalar.addi v1262 v1261
  let v1269 : BitVec 32 := Scalar.select v1267 v1268 v1262
  let c1_i32_1520 : BitVec 32 := 1#32
  let v1273 : BitVec 32 := Scalar.muli v1269 c1_i32_1520
  let v1274 : BitVec 32 := Scalar.addi c0_i32_1521 v1273
  v1274.toNat
def k0_dev35 (d0 : Dev nD) : Nat :=
  let c0_i32_1576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1551 : BitVec 32 := 2#32
  let v1297 : BitVec 32 := Scalar.addi v2 c2_i32_1551
  let c4_i32_1552 : BitVec 32 := 4#32
  let c0_i32_1553 : BitVec 32 := 0#32
  let v1298 : BitVec 1 := Scalar.cmpi .eq c4_i32_1552 c0_i32_1553
  let c1_i32_1554 : BitVec 32 := 1#32
  let v1299 : BitVec 32 := Scalar.select v1298 c1_i32_1554 c4_i32_1552
  let v1300 : BitVec 32 := Scalar.remsi v1297 v1299
  let c0_i32_1556 : BitVec 32 := 0#32
  let v1302 : BitVec 1 := Scalar.cmpi .slt v1300 c0_i32_1556
  let c0_i32_1557 : BitVec 32 := 0#32
  let v1303 : BitVec 1 := Scalar.cmpi .slt v1299 c0_i32_1557
  let v1304 : BitVec 1 := Scalar.xori v1302 v1303
  let c0_i32_1555 : BitVec 32 := 0#32
  let v1301 : BitVec 1 := Scalar.cmpi .ne v1300 c0_i32_1555
  let v1305 : BitVec 1 := Scalar.andi v1304 v1301
  let v1306 : BitVec 32 := Scalar.addi v1300 v1299
  let v1307 : BitVec 32 := Scalar.select v1305 v1306 v1300
  let c1_i32_1575 : BitVec 32 := 1#32
  let v1311 : BitVec 32 := Scalar.muli v1307 c1_i32_1575
  let v1312 : BitVec 32 := Scalar.addi c0_i32_1576 v1311
  v1312.toNat
def k0_dev36 (d0 : Dev nD) : Nat :=
  let c0_i32_1631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1606 : BitVec 32 := 3#32
  let v1335 : BitVec 32 := Scalar.addi v2 c3_i32_1606
  let c4_i32_1607 : BitVec 32 := 4#32
  let c0_i32_1608 : BitVec 32 := 0#32
  let v1336 : BitVec 1 := Scalar.cmpi .eq c4_i32_1607 c0_i32_1608
  let c1_i32_1609 : BitVec 32 := 1#32
  let v1337 : BitVec 32 := Scalar.select v1336 c1_i32_1609 c4_i32_1607
  let v1338 : BitVec 32 := Scalar.remsi v1335 v1337
  let c0_i32_1611 : BitVec 32 := 0#32
  let v1340 : BitVec 1 := Scalar.cmpi .slt v1338 c0_i32_1611
  let c0_i32_1612 : BitVec 32 := 0#32
  let v1341 : BitVec 1 := Scalar.cmpi .slt v1337 c0_i32_1612
  let v1342 : BitVec 1 := Scalar.xori v1340 v1341
  let c0_i32_1610 : BitVec 32 := 0#32
  let v1339 : BitVec 1 := Scalar.cmpi .ne v1338 c0_i32_1610
  let v1343 : BitVec 1 := Scalar.andi v1342 v1339
  let v1344 : BitVec 32 := Scalar.addi v1338 v1337
  let v1345 : BitVec 32 := Scalar.select v1343 v1344 v1338
  let c1_i32_1630 : BitVec 32 := 1#32
  let v1349 : BitVec 32 := Scalar.muli v1345 c1_i32_1630
  let v1350 : BitVec 32 := Scalar.addi c0_i32_1631 v1349
  v1350.toNat
def k0_dev37 (d0 : Dev nD) : Nat :=
  let c0_i32_1686 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1661 : BitVec 32 := 1#32
  let v1373 : BitVec 32 := Scalar.addi v2 c1_i32_1661
  let c4_i32_1662 : BitVec 32 := 4#32
  let c0_i32_1663 : BitVec 32 := 0#32
  let v1374 : BitVec 1 := Scalar.cmpi .eq c4_i32_1662 c0_i32_1663
  let c1_i32_1664 : BitVec 32 := 1#32
  let v1375 : BitVec 32 := Scalar.select v1374 c1_i32_1664 c4_i32_1662
  let v1376 : BitVec 32 := Scalar.remsi v1373 v1375
  let c0_i32_1666 : BitVec 32 := 0#32
  let v1378 : BitVec 1 := Scalar.cmpi .slt v1376 c0_i32_1666
  let c0_i32_1667 : BitVec 32 := 0#32
  let v1379 : BitVec 1 := Scalar.cmpi .slt v1375 c0_i32_1667
  let v1380 : BitVec 1 := Scalar.xori v1378 v1379
  let c0_i32_1665 : BitVec 32 := 0#32
  let v1377 : BitVec 1 := Scalar.cmpi .ne v1376 c0_i32_1665
  let v1381 : BitVec 1 := Scalar.andi v1380 v1377
  let v1382 : BitVec 32 := Scalar.addi v1376 v1375
  let v1383 : BitVec 32 := Scalar.select v1381 v1382 v1376
  let c1_i32_1685 : BitVec 32 := 1#32
  let v1387 : BitVec 32 := Scalar.muli v1383 c1_i32_1685
  let v1388 : BitVec 32 := Scalar.addi c0_i32_1686 v1387
  v1388.toNat
def k0_dev38 (d0 : Dev nD) : Nat :=
  let c0_i32_1741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1716 : BitVec 32 := 2#32
  let v1411 : BitVec 32 := Scalar.addi v2 c2_i32_1716
  let c4_i32_1717 : BitVec 32 := 4#32
  let c0_i32_1718 : BitVec 32 := 0#32
  let v1412 : BitVec 1 := Scalar.cmpi .eq c4_i32_1717 c0_i32_1718
  let c1_i32_1719 : BitVec 32 := 1#32
  let v1413 : BitVec 32 := Scalar.select v1412 c1_i32_1719 c4_i32_1717
  let v1414 : BitVec 32 := Scalar.remsi v1411 v1413
  let c0_i32_1721 : BitVec 32 := 0#32
  let v1416 : BitVec 1 := Scalar.cmpi .slt v1414 c0_i32_1721
  let c0_i32_1722 : BitVec 32 := 0#32
  let v1417 : BitVec 1 := Scalar.cmpi .slt v1413 c0_i32_1722
  let v1418 : BitVec 1 := Scalar.xori v1416 v1417
  let c0_i32_1720 : BitVec 32 := 0#32
  let v1415 : BitVec 1 := Scalar.cmpi .ne v1414 c0_i32_1720
  let v1419 : BitVec 1 := Scalar.andi v1418 v1415
  let v1420 : BitVec 32 := Scalar.addi v1414 v1413
  let v1421 : BitVec 32 := Scalar.select v1419 v1420 v1414
  let c1_i32_1740 : BitVec 32 := 1#32
  let v1425 : BitVec 32 := Scalar.muli v1421 c1_i32_1740
  let v1426 : BitVec 32 := Scalar.addi c0_i32_1741 v1425
  v1426.toNat
def k0_dev39 (d0 : Dev nD) : Nat :=
  let c0_i32_1796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1771 : BitVec 32 := 3#32
  let v1449 : BitVec 32 := Scalar.addi v2 c3_i32_1771
  let c4_i32_1772 : BitVec 32 := 4#32
  let c0_i32_1773 : BitVec 32 := 0#32
  let v1450 : BitVec 1 := Scalar.cmpi .eq c4_i32_1772 c0_i32_1773
  let c1_i32_1774 : BitVec 32 := 1#32
  let v1451 : BitVec 32 := Scalar.select v1450 c1_i32_1774 c4_i32_1772
  let v1452 : BitVec 32 := Scalar.remsi v1449 v1451
  let c0_i32_1776 : BitVec 32 := 0#32
  let v1454 : BitVec 1 := Scalar.cmpi .slt v1452 c0_i32_1776
  let c0_i32_1777 : BitVec 32 := 0#32
  let v1455 : BitVec 1 := Scalar.cmpi .slt v1451 c0_i32_1777
  let v1456 : BitVec 1 := Scalar.xori v1454 v1455
  let c0_i32_1775 : BitVec 32 := 0#32
  let v1453 : BitVec 1 := Scalar.cmpi .ne v1452 c0_i32_1775
  let v1457 : BitVec 1 := Scalar.andi v1456 v1453
  let v1458 : BitVec 32 := Scalar.addi v1452 v1451
  let v1459 : BitVec 32 := Scalar.select v1457 v1458 v1452
  let c1_i32_1795 : BitVec 32 := 1#32
  let v1463 : BitVec 32 := Scalar.muli v1459 c1_i32_1795
  let v1464 : BitVec 32 := Scalar.addi c0_i32_1796 v1463
  v1464.toNat
def k0_dev40 (d0 : Dev nD) : Nat :=
  let c0_i32_1898 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1879 : BitVec 32 := 2#32
  let v1519 : BitVec 32 := Scalar.addi v2 c2_i32_1879
  let c4_i32_1880 : BitVec 32 := 4#32
  let c0_i32_1881 : BitVec 32 := 0#32
  let v1520 : BitVec 1 := Scalar.cmpi .eq c4_i32_1880 c0_i32_1881
  let c1_i32_1882 : BitVec 32 := 1#32
  let v1521 : BitVec 32 := Scalar.select v1520 c1_i32_1882 c4_i32_1880
  let v1522 : BitVec 32 := Scalar.remsi v1519 v1521
  let c0_i32_1884 : BitVec 32 := 0#32
  let v1524 : BitVec 1 := Scalar.cmpi .slt v1522 c0_i32_1884
  let c0_i32_1885 : BitVec 32 := 0#32
  let v1525 : BitVec 1 := Scalar.cmpi .slt v1521 c0_i32_1885
  let v1526 : BitVec 1 := Scalar.xori v1524 v1525
  let c0_i32_1883 : BitVec 32 := 0#32
  let v1523 : BitVec 1 := Scalar.cmpi .ne v1522 c0_i32_1883
  let v1527 : BitVec 1 := Scalar.andi v1526 v1523
  let v1528 : BitVec 32 := Scalar.addi v1522 v1521
  let v1529 : BitVec 32 := Scalar.select v1527 v1528 v1522
  let c1_i32_1897 : BitVec 32 := 1#32
  let v1530 : BitVec 32 := Scalar.muli v1529 c1_i32_1897
  let v1531 : BitVec 32 := Scalar.addi c0_i32_1898 v1530
  v1531.toNat
def k0_dev41 (d0 : Dev nD) : Nat :=
  let c0_i32_1922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1903 : BitVec 32 := 1#32
  let v1540 : BitVec 32 := Scalar.addi v2 c1_i32_1903
  let c4_i32_1904 : BitVec 32 := 4#32
  let c0_i32_1905 : BitVec 32 := 0#32
  let v1541 : BitVec 1 := Scalar.cmpi .eq c4_i32_1904 c0_i32_1905
  let c1_i32_1906 : BitVec 32 := 1#32
  let v1542 : BitVec 32 := Scalar.select v1541 c1_i32_1906 c4_i32_1904
  let v1543 : BitVec 32 := Scalar.remsi v1540 v1542
  let c0_i32_1908 : BitVec 32 := 0#32
  let v1545 : BitVec 1 := Scalar.cmpi .slt v1543 c0_i32_1908
  let c0_i32_1909 : BitVec 32 := 0#32
  let v1546 : BitVec 1 := Scalar.cmpi .slt v1542 c0_i32_1909
  let v1547 : BitVec 1 := Scalar.xori v1545 v1546
  let c0_i32_1907 : BitVec 32 := 0#32
  let v1544 : BitVec 1 := Scalar.cmpi .ne v1543 c0_i32_1907
  let v1548 : BitVec 1 := Scalar.andi v1547 v1544
  let v1549 : BitVec 32 := Scalar.addi v1543 v1542
  let v1550 : BitVec 32 := Scalar.select v1548 v1549 v1543
  let c1_i32_1921 : BitVec 32 := 1#32
  let v1551 : BitVec 32 := Scalar.muli v1550 c1_i32_1921
  let v1552 : BitVec 32 := Scalar.addi c0_i32_1922 v1551
  v1552.toNat
def k0_dev42 (d0 : Dev nD) : Nat :=
  let c0_i32_1946 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1927 : BitVec 32 := 3#32
  let v1561 : BitVec 32 := Scalar.addi v2 c3_i32_1927
  let c4_i32_1928 : BitVec 32 := 4#32
  let c0_i32_1929 : BitVec 32 := 0#32
  let v1562 : BitVec 1 := Scalar.cmpi .eq c4_i32_1928 c0_i32_1929
  let c1_i32_1930 : BitVec 32 := 1#32
  let v1563 : BitVec 32 := Scalar.select v1562 c1_i32_1930 c4_i32_1928
  let v1564 : BitVec 32 := Scalar.remsi v1561 v1563
  let c0_i32_1932 : BitVec 32 := 0#32
  let v1566 : BitVec 1 := Scalar.cmpi .slt v1564 c0_i32_1932
  let c0_i32_1933 : BitVec 32 := 0#32
  let v1567 : BitVec 1 := Scalar.cmpi .slt v1563 c0_i32_1933
  let v1568 : BitVec 1 := Scalar.xori v1566 v1567
  let c0_i32_1931 : BitVec 32 := 0#32
  let v1565 : BitVec 1 := Scalar.cmpi .ne v1564 c0_i32_1931
  let v1569 : BitVec 1 := Scalar.andi v1568 v1565
  let v1570 : BitVec 32 := Scalar.addi v1564 v1563
  let v1571 : BitVec 32 := Scalar.select v1569 v1570 v1564
  let c1_i32_1945 : BitVec 32 := 1#32
  let v1572 : BitVec 32 := Scalar.muli v1571 c1_i32_1945
  let v1573 : BitVec 32 := Scalar.addi c0_i32_1946 v1572
  v1573.toNat
def k0_dev43 (d0 : Dev nD) : Nat :=
  let c0_i32_2050 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2031 : BitVec 32 := 2#32
  let v1629 : BitVec 32 := Scalar.addi v2 c2_i32_2031
  let c4_i32_2032 : BitVec 32 := 4#32
  let c0_i32_2033 : BitVec 32 := 0#32
  let v1630 : BitVec 1 := Scalar.cmpi .eq c4_i32_2032 c0_i32_2033
  let c1_i32_2034 : BitVec 32 := 1#32
  let v1631 : BitVec 32 := Scalar.select v1630 c1_i32_2034 c4_i32_2032
  let v1632 : BitVec 32 := Scalar.remsi v1629 v1631
  let c0_i32_2036 : BitVec 32 := 0#32
  let v1634 : BitVec 1 := Scalar.cmpi .slt v1632 c0_i32_2036
  let c0_i32_2037 : BitVec 32 := 0#32
  let v1635 : BitVec 1 := Scalar.cmpi .slt v1631 c0_i32_2037
  let v1636 : BitVec 1 := Scalar.xori v1634 v1635
  let c0_i32_2035 : BitVec 32 := 0#32
  let v1633 : BitVec 1 := Scalar.cmpi .ne v1632 c0_i32_2035
  let v1637 : BitVec 1 := Scalar.andi v1636 v1633
  let v1638 : BitVec 32 := Scalar.addi v1632 v1631
  let v1639 : BitVec 32 := Scalar.select v1637 v1638 v1632
  let c1_i32_2049 : BitVec 32 := 1#32
  let v1640 : BitVec 32 := Scalar.muli v1639 c1_i32_2049
  let v1641 : BitVec 32 := Scalar.addi c0_i32_2050 v1640
  v1641.toNat
def k0_dev44 (d0 : Dev nD) : Nat :=
  let c0_i32_2074 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2055 : BitVec 32 := 1#32
  let v1650 : BitVec 32 := Scalar.addi v2 c1_i32_2055
  let c4_i32_2056 : BitVec 32 := 4#32
  let c0_i32_2057 : BitVec 32 := 0#32
  let v1651 : BitVec 1 := Scalar.cmpi .eq c4_i32_2056 c0_i32_2057
  let c1_i32_2058 : BitVec 32 := 1#32
  let v1652 : BitVec 32 := Scalar.select v1651 c1_i32_2058 c4_i32_2056
  let v1653 : BitVec 32 := Scalar.remsi v1650 v1652
  let c0_i32_2060 : BitVec 32 := 0#32
  let v1655 : BitVec 1 := Scalar.cmpi .slt v1653 c0_i32_2060
  let c0_i32_2061 : BitVec 32 := 0#32
  let v1656 : BitVec 1 := Scalar.cmpi .slt v1652 c0_i32_2061
  let v1657 : BitVec 1 := Scalar.xori v1655 v1656
  let c0_i32_2059 : BitVec 32 := 0#32
  let v1654 : BitVec 1 := Scalar.cmpi .ne v1653 c0_i32_2059
  let v1658 : BitVec 1 := Scalar.andi v1657 v1654
  let v1659 : BitVec 32 := Scalar.addi v1653 v1652
  let v1660 : BitVec 32 := Scalar.select v1658 v1659 v1653
  let c1_i32_2073 : BitVec 32 := 1#32
  let v1661 : BitVec 32 := Scalar.muli v1660 c1_i32_2073
  let v1662 : BitVec 32 := Scalar.addi c0_i32_2074 v1661
  v1662.toNat
def k0_dev45 (d0 : Dev nD) : Nat :=
  let c0_i32_2098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2079 : BitVec 32 := 3#32
  let v1671 : BitVec 32 := Scalar.addi v2 c3_i32_2079
  let c4_i32_2080 : BitVec 32 := 4#32
  let c0_i32_2081 : BitVec 32 := 0#32
  let v1672 : BitVec 1 := Scalar.cmpi .eq c4_i32_2080 c0_i32_2081
  let c1_i32_2082 : BitVec 32 := 1#32
  let v1673 : BitVec 32 := Scalar.select v1672 c1_i32_2082 c4_i32_2080
  let v1674 : BitVec 32 := Scalar.remsi v1671 v1673
  let c0_i32_2084 : BitVec 32 := 0#32
  let v1676 : BitVec 1 := Scalar.cmpi .slt v1674 c0_i32_2084
  let c0_i32_2085 : BitVec 32 := 0#32
  let v1677 : BitVec 1 := Scalar.cmpi .slt v1673 c0_i32_2085
  let v1678 : BitVec 1 := Scalar.xori v1676 v1677
  let c0_i32_2083 : BitVec 32 := 0#32
  let v1675 : BitVec 1 := Scalar.cmpi .ne v1674 c0_i32_2083
  let v1679 : BitVec 1 := Scalar.andi v1678 v1675
  let v1680 : BitVec 32 := Scalar.addi v1674 v1673
  let v1681 : BitVec 32 := Scalar.select v1679 v1680 v1674
  let c1_i32_2097 : BitVec 32 := 1#32
  let v1682 : BitVec 32 := Scalar.muli v1681 c1_i32_2097
  let v1683 : BitVec 32 := Scalar.addi c0_i32_2098 v1682
  v1683.toNat
def k0_dev46 (d0 : Dev nD) : Nat :=
  let c0_i32_2202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2183 : BitVec 32 := 2#32
  let v1739 : BitVec 32 := Scalar.addi v2 c2_i32_2183
  let c4_i32_2184 : BitVec 32 := 4#32
  let c0_i32_2185 : BitVec 32 := 0#32
  let v1740 : BitVec 1 := Scalar.cmpi .eq c4_i32_2184 c0_i32_2185
  let c1_i32_2186 : BitVec 32 := 1#32
  let v1741 : BitVec 32 := Scalar.select v1740 c1_i32_2186 c4_i32_2184
  let v1742 : BitVec 32 := Scalar.remsi v1739 v1741
  let c0_i32_2188 : BitVec 32 := 0#32
  let v1744 : BitVec 1 := Scalar.cmpi .slt v1742 c0_i32_2188
  let c0_i32_2189 : BitVec 32 := 0#32
  let v1745 : BitVec 1 := Scalar.cmpi .slt v1741 c0_i32_2189
  let v1746 : BitVec 1 := Scalar.xori v1744 v1745
  let c0_i32_2187 : BitVec 32 := 0#32
  let v1743 : BitVec 1 := Scalar.cmpi .ne v1742 c0_i32_2187
  let v1747 : BitVec 1 := Scalar.andi v1746 v1743
  let v1748 : BitVec 32 := Scalar.addi v1742 v1741
  let v1749 : BitVec 32 := Scalar.select v1747 v1748 v1742
  let c1_i32_2201 : BitVec 32 := 1#32
  let v1750 : BitVec 32 := Scalar.muli v1749 c1_i32_2201
  let v1751 : BitVec 32 := Scalar.addi c0_i32_2202 v1750
  v1751.toNat
def k0_dev47 (d0 : Dev nD) : Nat :=
  let c0_i32_2226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2207 : BitVec 32 := 1#32
  let v1760 : BitVec 32 := Scalar.addi v2 c1_i32_2207
  let c4_i32_2208 : BitVec 32 := 4#32
  let c0_i32_2209 : BitVec 32 := 0#32
  let v1761 : BitVec 1 := Scalar.cmpi .eq c4_i32_2208 c0_i32_2209
  let c1_i32_2210 : BitVec 32 := 1#32
  let v1762 : BitVec 32 := Scalar.select v1761 c1_i32_2210 c4_i32_2208
  let v1763 : BitVec 32 := Scalar.remsi v1760 v1762
  let c0_i32_2212 : BitVec 32 := 0#32
  let v1765 : BitVec 1 := Scalar.cmpi .slt v1763 c0_i32_2212
  let c0_i32_2213 : BitVec 32 := 0#32
  let v1766 : BitVec 1 := Scalar.cmpi .slt v1762 c0_i32_2213
  let v1767 : BitVec 1 := Scalar.xori v1765 v1766
  let c0_i32_2211 : BitVec 32 := 0#32
  let v1764 : BitVec 1 := Scalar.cmpi .ne v1763 c0_i32_2211
  let v1768 : BitVec 1 := Scalar.andi v1767 v1764
  let v1769 : BitVec 32 := Scalar.addi v1763 v1762
  let v1770 : BitVec 32 := Scalar.select v1768 v1769 v1763
  let c1_i32_2225 : BitVec 32 := 1#32
  let v1771 : BitVec 32 := Scalar.muli v1770 c1_i32_2225
  let v1772 : BitVec 32 := Scalar.addi c0_i32_2226 v1771
  v1772.toNat
def k0_dev48 (d0 : Dev nD) : Nat :=
  let c0_i32_2250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2231 : BitVec 32 := 3#32
  let v1781 : BitVec 32 := Scalar.addi v2 c3_i32_2231
  let c4_i32_2232 : BitVec 32 := 4#32
  let c0_i32_2233 : BitVec 32 := 0#32
  let v1782 : BitVec 1 := Scalar.cmpi .eq c4_i32_2232 c0_i32_2233
  let c1_i32_2234 : BitVec 32 := 1#32
  let v1783 : BitVec 32 := Scalar.select v1782 c1_i32_2234 c4_i32_2232
  let v1784 : BitVec 32 := Scalar.remsi v1781 v1783
  let c0_i32_2236 : BitVec 32 := 0#32
  let v1786 : BitVec 1 := Scalar.cmpi .slt v1784 c0_i32_2236
  let c0_i32_2237 : BitVec 32 := 0#32
  let v1787 : BitVec 1 := Scalar.cmpi .slt v1783 c0_i32_2237
  let v1788 : BitVec 1 := Scalar.xori v1786 v1787
  let c0_i32_2235 : BitVec 32 := 0#32
  let v1785 : BitVec 1 := Scalar.cmpi .ne v1784 c0_i32_2235
  let v1789 : BitVec 1 := Scalar.andi v1788 v1785
  let v1790 : BitVec 32 := Scalar.addi v1784 v1783
  let v1791 : BitVec 32 := Scalar.select v1789 v1790 v1784
  let c1_i32_2249 : BitVec 32 := 1#32
  let v1792 : BitVec 32 := Scalar.muli v1791 c1_i32_2249
  let v1793 : BitVec 32 := Scalar.addi c0_i32_2250 v1792
  v1793.toNat
def k0_dev49 (d0 : Dev nD) : Nat :=
  let c0_i32_2354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2335 : BitVec 32 := 2#32
  let v1849 : BitVec 32 := Scalar.addi v2 c2_i32_2335
  let c4_i32_2336 : BitVec 32 := 4#32
  let c0_i32_2337 : BitVec 32 := 0#32
  let v1850 : BitVec 1 := Scalar.cmpi .eq c4_i32_2336 c0_i32_2337
  let c1_i32_2338 : BitVec 32 := 1#32
  let v1851 : BitVec 32 := Scalar.select v1850 c1_i32_2338 c4_i32_2336
  let v1852 : BitVec 32 := Scalar.remsi v1849 v1851
  let c0_i32_2340 : BitVec 32 := 0#32
  let v1854 : BitVec 1 := Scalar.cmpi .slt v1852 c0_i32_2340
  let c0_i32_2341 : BitVec 32 := 0#32
  let v1855 : BitVec 1 := Scalar.cmpi .slt v1851 c0_i32_2341
  let v1856 : BitVec 1 := Scalar.xori v1854 v1855
  let c0_i32_2339 : BitVec 32 := 0#32
  let v1853 : BitVec 1 := Scalar.cmpi .ne v1852 c0_i32_2339
  let v1857 : BitVec 1 := Scalar.andi v1856 v1853
  let v1858 : BitVec 32 := Scalar.addi v1852 v1851
  let v1859 : BitVec 32 := Scalar.select v1857 v1858 v1852
  let c1_i32_2353 : BitVec 32 := 1#32
  let v1860 : BitVec 32 := Scalar.muli v1859 c1_i32_2353
  let v1861 : BitVec 32 := Scalar.addi c0_i32_2354 v1860
  v1861.toNat
def k0_dev50 (d0 : Dev nD) : Nat :=
  let c0_i32_2378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2359 : BitVec 32 := 1#32
  let v1870 : BitVec 32 := Scalar.addi v2 c1_i32_2359
  let c4_i32_2360 : BitVec 32 := 4#32
  let c0_i32_2361 : BitVec 32 := 0#32
  let v1871 : BitVec 1 := Scalar.cmpi .eq c4_i32_2360 c0_i32_2361
  let c1_i32_2362 : BitVec 32 := 1#32
  let v1872 : BitVec 32 := Scalar.select v1871 c1_i32_2362 c4_i32_2360
  let v1873 : BitVec 32 := Scalar.remsi v1870 v1872
  let c0_i32_2364 : BitVec 32 := 0#32
  let v1875 : BitVec 1 := Scalar.cmpi .slt v1873 c0_i32_2364
  let c0_i32_2365 : BitVec 32 := 0#32
  let v1876 : BitVec 1 := Scalar.cmpi .slt v1872 c0_i32_2365
  let v1877 : BitVec 1 := Scalar.xori v1875 v1876
  let c0_i32_2363 : BitVec 32 := 0#32
  let v1874 : BitVec 1 := Scalar.cmpi .ne v1873 c0_i32_2363
  let v1878 : BitVec 1 := Scalar.andi v1877 v1874
  let v1879 : BitVec 32 := Scalar.addi v1873 v1872
  let v1880 : BitVec 32 := Scalar.select v1878 v1879 v1873
  let c1_i32_2377 : BitVec 32 := 1#32
  let v1881 : BitVec 32 := Scalar.muli v1880 c1_i32_2377
  let v1882 : BitVec 32 := Scalar.addi c0_i32_2378 v1881
  v1882.toNat
def k0_dev51 (d0 : Dev nD) : Nat :=
  let c0_i32_2402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2383 : BitVec 32 := 3#32
  let v1891 : BitVec 32 := Scalar.addi v2 c3_i32_2383
  let c4_i32_2384 : BitVec 32 := 4#32
  let c0_i32_2385 : BitVec 32 := 0#32
  let v1892 : BitVec 1 := Scalar.cmpi .eq c4_i32_2384 c0_i32_2385
  let c1_i32_2386 : BitVec 32 := 1#32
  let v1893 : BitVec 32 := Scalar.select v1892 c1_i32_2386 c4_i32_2384
  let v1894 : BitVec 32 := Scalar.remsi v1891 v1893
  let c0_i32_2388 : BitVec 32 := 0#32
  let v1896 : BitVec 1 := Scalar.cmpi .slt v1894 c0_i32_2388
  let c0_i32_2389 : BitVec 32 := 0#32
  let v1897 : BitVec 1 := Scalar.cmpi .slt v1893 c0_i32_2389
  let v1898 : BitVec 1 := Scalar.xori v1896 v1897
  let c0_i32_2387 : BitVec 32 := 0#32
  let v1895 : BitVec 1 := Scalar.cmpi .ne v1894 c0_i32_2387
  let v1899 : BitVec 1 := Scalar.andi v1898 v1895
  let v1900 : BitVec 32 := Scalar.addi v1894 v1893
  let v1901 : BitVec 32 := Scalar.select v1899 v1900 v1894
  let c1_i32_2401 : BitVec 32 := 1#32
  let v1902 : BitVec 32 := Scalar.muli v1901 c1_i32_2401
  let v1903 : BitVec 32 := Scalar.addi c0_i32_2402 v1902
  v1903.toNat
def k0_dev52 (d0 : Dev nD) : Nat :=
  let c0_i32_2463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2438 : BitVec 32 := 1#32
  let v1931 : BitVec 32 := Scalar.addi v2 c1_i32_2438
  let c4_i32_2439 : BitVec 32 := 4#32
  let c0_i32_2440 : BitVec 32 := 0#32
  let v1932 : BitVec 1 := Scalar.cmpi .eq c4_i32_2439 c0_i32_2440
  let c1_i32_2441 : BitVec 32 := 1#32
  let v1933 : BitVec 32 := Scalar.select v1932 c1_i32_2441 c4_i32_2439
  let v1934 : BitVec 32 := Scalar.remsi v1931 v1933
  let c0_i32_2443 : BitVec 32 := 0#32
  let v1936 : BitVec 1 := Scalar.cmpi .slt v1934 c0_i32_2443
  let c0_i32_2444 : BitVec 32 := 0#32
  let v1937 : BitVec 1 := Scalar.cmpi .slt v1933 c0_i32_2444
  let v1938 : BitVec 1 := Scalar.xori v1936 v1937
  let c0_i32_2442 : BitVec 32 := 0#32
  let v1935 : BitVec 1 := Scalar.cmpi .ne v1934 c0_i32_2442
  let v1939 : BitVec 1 := Scalar.andi v1938 v1935
  let v1940 : BitVec 32 := Scalar.addi v1934 v1933
  let v1941 : BitVec 32 := Scalar.select v1939 v1940 v1934
  let c1_i32_2462 : BitVec 32 := 1#32
  let v1945 : BitVec 32 := Scalar.muli v1941 c1_i32_2462
  let v1946 : BitVec 32 := Scalar.addi c0_i32_2463 v1945
  v1946.toNat
def k0_dev53 (d0 : Dev nD) : Nat :=
  let c0_i32_2518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2493 : BitVec 32 := 2#32
  let v1969 : BitVec 32 := Scalar.addi v2 c2_i32_2493
  let c4_i32_2494 : BitVec 32 := 4#32
  let c0_i32_2495 : BitVec 32 := 0#32
  let v1970 : BitVec 1 := Scalar.cmpi .eq c4_i32_2494 c0_i32_2495
  let c1_i32_2496 : BitVec 32 := 1#32
  let v1971 : BitVec 32 := Scalar.select v1970 c1_i32_2496 c4_i32_2494
  let v1972 : BitVec 32 := Scalar.remsi v1969 v1971
  let c0_i32_2498 : BitVec 32 := 0#32
  let v1974 : BitVec 1 := Scalar.cmpi .slt v1972 c0_i32_2498
  let c0_i32_2499 : BitVec 32 := 0#32
  let v1975 : BitVec 1 := Scalar.cmpi .slt v1971 c0_i32_2499
  let v1976 : BitVec 1 := Scalar.xori v1974 v1975
  let c0_i32_2497 : BitVec 32 := 0#32
  let v1973 : BitVec 1 := Scalar.cmpi .ne v1972 c0_i32_2497
  let v1977 : BitVec 1 := Scalar.andi v1976 v1973
  let v1978 : BitVec 32 := Scalar.addi v1972 v1971
  let v1979 : BitVec 32 := Scalar.select v1977 v1978 v1972
  let c1_i32_2517 : BitVec 32 := 1#32
  let v1983 : BitVec 32 := Scalar.muli v1979 c1_i32_2517
  let v1984 : BitVec 32 := Scalar.addi c0_i32_2518 v1983
  v1984.toNat
def k0_dev54 (d0 : Dev nD) : Nat :=
  let c0_i32_2573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2548 : BitVec 32 := 3#32
  let v2007 : BitVec 32 := Scalar.addi v2 c3_i32_2548
  let c4_i32_2549 : BitVec 32 := 4#32
  let c0_i32_2550 : BitVec 32 := 0#32
  let v2008 : BitVec 1 := Scalar.cmpi .eq c4_i32_2549 c0_i32_2550
  let c1_i32_2551 : BitVec 32 := 1#32
  let v2009 : BitVec 32 := Scalar.select v2008 c1_i32_2551 c4_i32_2549
  let v2010 : BitVec 32 := Scalar.remsi v2007 v2009
  let c0_i32_2553 : BitVec 32 := 0#32
  let v2012 : BitVec 1 := Scalar.cmpi .slt v2010 c0_i32_2553
  let c0_i32_2554 : BitVec 32 := 0#32
  let v2013 : BitVec 1 := Scalar.cmpi .slt v2009 c0_i32_2554
  let v2014 : BitVec 1 := Scalar.xori v2012 v2013
  let c0_i32_2552 : BitVec 32 := 0#32
  let v2011 : BitVec 1 := Scalar.cmpi .ne v2010 c0_i32_2552
  let v2015 : BitVec 1 := Scalar.andi v2014 v2011
  let v2016 : BitVec 32 := Scalar.addi v2010 v2009
  let v2017 : BitVec 32 := Scalar.select v2015 v2016 v2010
  let c1_i32_2572 : BitVec 32 := 1#32
  let v2021 : BitVec 32 := Scalar.muli v2017 c1_i32_2572
  let v2022 : BitVec 32 := Scalar.addi c0_i32_2573 v2021
  v2022.toNat
def k0_dev55 (d0 : Dev nD) : Nat :=
  let c0_i32_2628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2603 : BitVec 32 := 1#32
  let v2045 : BitVec 32 := Scalar.addi v2 c1_i32_2603
  let c4_i32_2604 : BitVec 32 := 4#32
  let c0_i32_2605 : BitVec 32 := 0#32
  let v2046 : BitVec 1 := Scalar.cmpi .eq c4_i32_2604 c0_i32_2605
  let c1_i32_2606 : BitVec 32 := 1#32
  let v2047 : BitVec 32 := Scalar.select v2046 c1_i32_2606 c4_i32_2604
  let v2048 : BitVec 32 := Scalar.remsi v2045 v2047
  let c0_i32_2608 : BitVec 32 := 0#32
  let v2050 : BitVec 1 := Scalar.cmpi .slt v2048 c0_i32_2608
  let c0_i32_2609 : BitVec 32 := 0#32
  let v2051 : BitVec 1 := Scalar.cmpi .slt v2047 c0_i32_2609
  let v2052 : BitVec 1 := Scalar.xori v2050 v2051
  let c0_i32_2607 : BitVec 32 := 0#32
  let v2049 : BitVec 1 := Scalar.cmpi .ne v2048 c0_i32_2607
  let v2053 : BitVec 1 := Scalar.andi v2052 v2049
  let v2054 : BitVec 32 := Scalar.addi v2048 v2047
  let v2055 : BitVec 32 := Scalar.select v2053 v2054 v2048
  let c1_i32_2627 : BitVec 32 := 1#32
  let v2059 : BitVec 32 := Scalar.muli v2055 c1_i32_2627
  let v2060 : BitVec 32 := Scalar.addi c0_i32_2628 v2059
  v2060.toNat
def k0_dev56 (d0 : Dev nD) : Nat :=
  let c0_i32_2683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2658 : BitVec 32 := 2#32
  let v2083 : BitVec 32 := Scalar.addi v2 c2_i32_2658
  let c4_i32_2659 : BitVec 32 := 4#32
  let c0_i32_2660 : BitVec 32 := 0#32
  let v2084 : BitVec 1 := Scalar.cmpi .eq c4_i32_2659 c0_i32_2660
  let c1_i32_2661 : BitVec 32 := 1#32
  let v2085 : BitVec 32 := Scalar.select v2084 c1_i32_2661 c4_i32_2659
  let v2086 : BitVec 32 := Scalar.remsi v2083 v2085
  let c0_i32_2663 : BitVec 32 := 0#32
  let v2088 : BitVec 1 := Scalar.cmpi .slt v2086 c0_i32_2663
  let c0_i32_2664 : BitVec 32 := 0#32
  let v2089 : BitVec 1 := Scalar.cmpi .slt v2085 c0_i32_2664
  let v2090 : BitVec 1 := Scalar.xori v2088 v2089
  let c0_i32_2662 : BitVec 32 := 0#32
  let v2087 : BitVec 1 := Scalar.cmpi .ne v2086 c0_i32_2662
  let v2091 : BitVec 1 := Scalar.andi v2090 v2087
  let v2092 : BitVec 32 := Scalar.addi v2086 v2085
  let v2093 : BitVec 32 := Scalar.select v2091 v2092 v2086
  let c1_i32_2682 : BitVec 32 := 1#32
  let v2097 : BitVec 32 := Scalar.muli v2093 c1_i32_2682
  let v2098 : BitVec 32 := Scalar.addi c0_i32_2683 v2097
  v2098.toNat
def k0_dev57 (d0 : Dev nD) : Nat :=
  let c0_i32_2738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2713 : BitVec 32 := 3#32
  let v2121 : BitVec 32 := Scalar.addi v2 c3_i32_2713
  let c4_i32_2714 : BitVec 32 := 4#32
  let c0_i32_2715 : BitVec 32 := 0#32
  let v2122 : BitVec 1 := Scalar.cmpi .eq c4_i32_2714 c0_i32_2715
  let c1_i32_2716 : BitVec 32 := 1#32
  let v2123 : BitVec 32 := Scalar.select v2122 c1_i32_2716 c4_i32_2714
  let v2124 : BitVec 32 := Scalar.remsi v2121 v2123
  let c0_i32_2718 : BitVec 32 := 0#32
  let v2126 : BitVec 1 := Scalar.cmpi .slt v2124 c0_i32_2718
  let c0_i32_2719 : BitVec 32 := 0#32
  let v2127 : BitVec 1 := Scalar.cmpi .slt v2123 c0_i32_2719
  let v2128 : BitVec 1 := Scalar.xori v2126 v2127
  let c0_i32_2717 : BitVec 32 := 0#32
  let v2125 : BitVec 1 := Scalar.cmpi .ne v2124 c0_i32_2717
  let v2129 : BitVec 1 := Scalar.andi v2128 v2125
  let v2130 : BitVec 32 := Scalar.addi v2124 v2123
  let v2131 : BitVec 32 := Scalar.select v2129 v2130 v2124
  let c1_i32_2737 : BitVec 32 := 1#32
  let v2135 : BitVec 32 := Scalar.muli v2131 c1_i32_2737
  let v2136 : BitVec 32 := Scalar.addi c0_i32_2738 v2135
  v2136.toNat
def k0_dev58 (d0 : Dev nD) : Nat :=
  let c0_i32_2793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2768 : BitVec 32 := 1#32
  let v2159 : BitVec 32 := Scalar.addi v2 c1_i32_2768
  let c4_i32_2769 : BitVec 32 := 4#32
  let c0_i32_2770 : BitVec 32 := 0#32
  let v2160 : BitVec 1 := Scalar.cmpi .eq c4_i32_2769 c0_i32_2770
  let c1_i32_2771 : BitVec 32 := 1#32
  let v2161 : BitVec 32 := Scalar.select v2160 c1_i32_2771 c4_i32_2769
  let v2162 : BitVec 32 := Scalar.remsi v2159 v2161
  let c0_i32_2773 : BitVec 32 := 0#32
  let v2164 : BitVec 1 := Scalar.cmpi .slt v2162 c0_i32_2773
  let c0_i32_2774 : BitVec 32 := 0#32
  let v2165 : BitVec 1 := Scalar.cmpi .slt v2161 c0_i32_2774
  let v2166 : BitVec 1 := Scalar.xori v2164 v2165
  let c0_i32_2772 : BitVec 32 := 0#32
  let v2163 : BitVec 1 := Scalar.cmpi .ne v2162 c0_i32_2772
  let v2167 : BitVec 1 := Scalar.andi v2166 v2163
  let v2168 : BitVec 32 := Scalar.addi v2162 v2161
  let v2169 : BitVec 32 := Scalar.select v2167 v2168 v2162
  let c1_i32_2792 : BitVec 32 := 1#32
  let v2173 : BitVec 32 := Scalar.muli v2169 c1_i32_2792
  let v2174 : BitVec 32 := Scalar.addi c0_i32_2793 v2173
  v2174.toNat
def k0_dev59 (d0 : Dev nD) : Nat :=
  let c0_i32_2848 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2823 : BitVec 32 := 2#32
  let v2197 : BitVec 32 := Scalar.addi v2 c2_i32_2823
  let c4_i32_2824 : BitVec 32 := 4#32
  let c0_i32_2825 : BitVec 32 := 0#32
  let v2198 : BitVec 1 := Scalar.cmpi .eq c4_i32_2824 c0_i32_2825
  let c1_i32_2826 : BitVec 32 := 1#32
  let v2199 : BitVec 32 := Scalar.select v2198 c1_i32_2826 c4_i32_2824
  let v2200 : BitVec 32 := Scalar.remsi v2197 v2199
  let c0_i32_2828 : BitVec 32 := 0#32
  let v2202 : BitVec 1 := Scalar.cmpi .slt v2200 c0_i32_2828
  let c0_i32_2829 : BitVec 32 := 0#32
  let v2203 : BitVec 1 := Scalar.cmpi .slt v2199 c0_i32_2829
  let v2204 : BitVec 1 := Scalar.xori v2202 v2203
  let c0_i32_2827 : BitVec 32 := 0#32
  let v2201 : BitVec 1 := Scalar.cmpi .ne v2200 c0_i32_2827
  let v2205 : BitVec 1 := Scalar.andi v2204 v2201
  let v2206 : BitVec 32 := Scalar.addi v2200 v2199
  let v2207 : BitVec 32 := Scalar.select v2205 v2206 v2200
  let c1_i32_2847 : BitVec 32 := 1#32
  let v2211 : BitVec 32 := Scalar.muli v2207 c1_i32_2847
  let v2212 : BitVec 32 := Scalar.addi c0_i32_2848 v2211
  v2212.toNat
def k0_dev60 (d0 : Dev nD) : Nat :=
  let c0_i32_2903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2878 : BitVec 32 := 3#32
  let v2235 : BitVec 32 := Scalar.addi v2 c3_i32_2878
  let c4_i32_2879 : BitVec 32 := 4#32
  let c0_i32_2880 : BitVec 32 := 0#32
  let v2236 : BitVec 1 := Scalar.cmpi .eq c4_i32_2879 c0_i32_2880
  let c1_i32_2881 : BitVec 32 := 1#32
  let v2237 : BitVec 32 := Scalar.select v2236 c1_i32_2881 c4_i32_2879
  let v2238 : BitVec 32 := Scalar.remsi v2235 v2237
  let c0_i32_2883 : BitVec 32 := 0#32
  let v2240 : BitVec 1 := Scalar.cmpi .slt v2238 c0_i32_2883
  let c0_i32_2884 : BitVec 32 := 0#32
  let v2241 : BitVec 1 := Scalar.cmpi .slt v2237 c0_i32_2884
  let v2242 : BitVec 1 := Scalar.xori v2240 v2241
  let c0_i32_2882 : BitVec 32 := 0#32
  let v2239 : BitVec 1 := Scalar.cmpi .ne v2238 c0_i32_2882
  let v2243 : BitVec 1 := Scalar.andi v2242 v2239
  let v2244 : BitVec 32 := Scalar.addi v2238 v2237
  let v2245 : BitVec 32 := Scalar.select v2243 v2244 v2238
  let c1_i32_2902 : BitVec 32 := 1#32
  let v2249 : BitVec 32 := Scalar.muli v2245 c1_i32_2902
  let v2250 : BitVec 32 := Scalar.addi c0_i32_2903 v2249
  v2250.toNat
def k0_dev61 (d0 : Dev nD) : Nat :=
  let c0_i32_2958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2933 : BitVec 32 := 1#32
  let v2273 : BitVec 32 := Scalar.addi v2 c1_i32_2933
  let c4_i32_2934 : BitVec 32 := 4#32
  let c0_i32_2935 : BitVec 32 := 0#32
  let v2274 : BitVec 1 := Scalar.cmpi .eq c4_i32_2934 c0_i32_2935
  let c1_i32_2936 : BitVec 32 := 1#32
  let v2275 : BitVec 32 := Scalar.select v2274 c1_i32_2936 c4_i32_2934
  let v2276 : BitVec 32 := Scalar.remsi v2273 v2275
  let c0_i32_2938 : BitVec 32 := 0#32
  let v2278 : BitVec 1 := Scalar.cmpi .slt v2276 c0_i32_2938
  let c0_i32_2939 : BitVec 32 := 0#32
  let v2279 : BitVec 1 := Scalar.cmpi .slt v2275 c0_i32_2939
  let v2280 : BitVec 1 := Scalar.xori v2278 v2279
  let c0_i32_2937 : BitVec 32 := 0#32
  let v2277 : BitVec 1 := Scalar.cmpi .ne v2276 c0_i32_2937
  let v2281 : BitVec 1 := Scalar.andi v2280 v2277
  let v2282 : BitVec 32 := Scalar.addi v2276 v2275
  let v2283 : BitVec 32 := Scalar.select v2281 v2282 v2276
  let c1_i32_2957 : BitVec 32 := 1#32
  let v2287 : BitVec 32 := Scalar.muli v2283 c1_i32_2957
  let v2288 : BitVec 32 := Scalar.addi c0_i32_2958 v2287
  v2288.toNat
def k0_dev62 (d0 : Dev nD) : Nat :=
  let c0_i32_3013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2988 : BitVec 32 := 2#32
  let v2311 : BitVec 32 := Scalar.addi v2 c2_i32_2988
  let c4_i32_2989 : BitVec 32 := 4#32
  let c0_i32_2990 : BitVec 32 := 0#32
  let v2312 : BitVec 1 := Scalar.cmpi .eq c4_i32_2989 c0_i32_2990
  let c1_i32_2991 : BitVec 32 := 1#32
  let v2313 : BitVec 32 := Scalar.select v2312 c1_i32_2991 c4_i32_2989
  let v2314 : BitVec 32 := Scalar.remsi v2311 v2313
  let c0_i32_2993 : BitVec 32 := 0#32
  let v2316 : BitVec 1 := Scalar.cmpi .slt v2314 c0_i32_2993
  let c0_i32_2994 : BitVec 32 := 0#32
  let v2317 : BitVec 1 := Scalar.cmpi .slt v2313 c0_i32_2994
  let v2318 : BitVec 1 := Scalar.xori v2316 v2317
  let c0_i32_2992 : BitVec 32 := 0#32
  let v2315 : BitVec 1 := Scalar.cmpi .ne v2314 c0_i32_2992
  let v2319 : BitVec 1 := Scalar.andi v2318 v2315
  let v2320 : BitVec 32 := Scalar.addi v2314 v2313
  let v2321 : BitVec 32 := Scalar.select v2319 v2320 v2314
  let c1_i32_3012 : BitVec 32 := 1#32
  let v2325 : BitVec 32 := Scalar.muli v2321 c1_i32_3012
  let v2326 : BitVec 32 := Scalar.addi c0_i32_3013 v2325
  v2326.toNat
def k0_dev63 (d0 : Dev nD) : Nat :=
  let c0_i32_3068 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3043 : BitVec 32 := 3#32
  let v2349 : BitVec 32 := Scalar.addi v2 c3_i32_3043
  let c4_i32_3044 : BitVec 32 := 4#32
  let c0_i32_3045 : BitVec 32 := 0#32
  let v2350 : BitVec 1 := Scalar.cmpi .eq c4_i32_3044 c0_i32_3045
  let c1_i32_3046 : BitVec 32 := 1#32
  let v2351 : BitVec 32 := Scalar.select v2350 c1_i32_3046 c4_i32_3044
  let v2352 : BitVec 32 := Scalar.remsi v2349 v2351
  let c0_i32_3048 : BitVec 32 := 0#32
  let v2354 : BitVec 1 := Scalar.cmpi .slt v2352 c0_i32_3048
  let c0_i32_3049 : BitVec 32 := 0#32
  let v2355 : BitVec 1 := Scalar.cmpi .slt v2351 c0_i32_3049
  let v2356 : BitVec 1 := Scalar.xori v2354 v2355
  let c0_i32_3047 : BitVec 32 := 0#32
  let v2353 : BitVec 1 := Scalar.cmpi .ne v2352 c0_i32_3047
  let v2357 : BitVec 1 := Scalar.andi v2356 v2353
  let v2358 : BitVec 32 := Scalar.addi v2352 v2351
  let v2359 : BitVec 32 := Scalar.select v2357 v2358 v2352
  let c1_i32_3067 : BitVec 32 := 1#32
  let v2363 : BitVec 32 := Scalar.muli v2359 c1_i32_3067
  let v2364 : BitVec 32 := Scalar.addi c0_i32_3068 v2363
  v2364.toNat
def k0_dev64 (d0 : Dev nD) : Nat :=
  let c0_i32_3167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3149 : BitVec 32 := 2#32
  let v2417 : BitVec 32 := Scalar.addi v2 c2_i32_3149
  let c4_i32_3150 : BitVec 32 := 4#32
  let c0_i32_3151 : BitVec 32 := 0#32
  let v2418 : BitVec 1 := Scalar.cmpi .eq c4_i32_3150 c0_i32_3151
  let c1_i32_3152 : BitVec 32 := 1#32
  let v2419 : BitVec 32 := Scalar.select v2418 c1_i32_3152 c4_i32_3150
  let v2420 : BitVec 32 := Scalar.remsi v2417 v2419
  let c0_i32_3154 : BitVec 32 := 0#32
  let v2422 : BitVec 1 := Scalar.cmpi .slt v2420 c0_i32_3154
  let c0_i32_3155 : BitVec 32 := 0#32
  let v2423 : BitVec 1 := Scalar.cmpi .slt v2419 c0_i32_3155
  let v2424 : BitVec 1 := Scalar.xori v2422 v2423
  let c0_i32_3153 : BitVec 32 := 0#32
  let v2421 : BitVec 1 := Scalar.cmpi .ne v2420 c0_i32_3153
  let v2425 : BitVec 1 := Scalar.andi v2424 v2421
  let v2426 : BitVec 32 := Scalar.addi v2420 v2419
  let v2427 : BitVec 32 := Scalar.select v2425 v2426 v2420
  let c1_i32_3166 : BitVec 32 := 1#32
  let v2428 : BitVec 32 := Scalar.muli v2427 c1_i32_3166
  let v2429 : BitVec 32 := Scalar.addi c0_i32_3167 v2428
  v2429.toNat
def k0_dev65 (d0 : Dev nD) : Nat :=
  let c0_i32_3191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3172 : BitVec 32 := 1#32
  let v2438 : BitVec 32 := Scalar.addi v2 c1_i32_3172
  let c4_i32_3173 : BitVec 32 := 4#32
  let c0_i32_3174 : BitVec 32 := 0#32
  let v2439 : BitVec 1 := Scalar.cmpi .eq c4_i32_3173 c0_i32_3174
  let c1_i32_3175 : BitVec 32 := 1#32
  let v2440 : BitVec 32 := Scalar.select v2439 c1_i32_3175 c4_i32_3173
  let v2441 : BitVec 32 := Scalar.remsi v2438 v2440
  let c0_i32_3177 : BitVec 32 := 0#32
  let v2443 : BitVec 1 := Scalar.cmpi .slt v2441 c0_i32_3177
  let c0_i32_3178 : BitVec 32 := 0#32
  let v2444 : BitVec 1 := Scalar.cmpi .slt v2440 c0_i32_3178
  let v2445 : BitVec 1 := Scalar.xori v2443 v2444
  let c0_i32_3176 : BitVec 32 := 0#32
  let v2442 : BitVec 1 := Scalar.cmpi .ne v2441 c0_i32_3176
  let v2446 : BitVec 1 := Scalar.andi v2445 v2442
  let v2447 : BitVec 32 := Scalar.addi v2441 v2440
  let v2448 : BitVec 32 := Scalar.select v2446 v2447 v2441
  let c1_i32_3190 : BitVec 32 := 1#32
  let v2449 : BitVec 32 := Scalar.muli v2448 c1_i32_3190
  let v2450 : BitVec 32 := Scalar.addi c0_i32_3191 v2449
  v2450.toNat
def k0_dev66 (d0 : Dev nD) : Nat :=
  let c0_i32_3215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3196 : BitVec 32 := 3#32
  let v2459 : BitVec 32 := Scalar.addi v2 c3_i32_3196
  let c4_i32_3197 : BitVec 32 := 4#32
  let c0_i32_3198 : BitVec 32 := 0#32
  let v2460 : BitVec 1 := Scalar.cmpi .eq c4_i32_3197 c0_i32_3198
  let c1_i32_3199 : BitVec 32 := 1#32
  let v2461 : BitVec 32 := Scalar.select v2460 c1_i32_3199 c4_i32_3197
  let v2462 : BitVec 32 := Scalar.remsi v2459 v2461
  let c0_i32_3201 : BitVec 32 := 0#32
  let v2464 : BitVec 1 := Scalar.cmpi .slt v2462 c0_i32_3201
  let c0_i32_3202 : BitVec 32 := 0#32
  let v2465 : BitVec 1 := Scalar.cmpi .slt v2461 c0_i32_3202
  let v2466 : BitVec 1 := Scalar.xori v2464 v2465
  let c0_i32_3200 : BitVec 32 := 0#32
  let v2463 : BitVec 1 := Scalar.cmpi .ne v2462 c0_i32_3200
  let v2467 : BitVec 1 := Scalar.andi v2466 v2463
  let v2468 : BitVec 32 := Scalar.addi v2462 v2461
  let v2469 : BitVec 32 := Scalar.select v2467 v2468 v2462
  let c1_i32_3214 : BitVec 32 := 1#32
  let v2470 : BitVec 32 := Scalar.muli v2469 c1_i32_3214
  let v2471 : BitVec 32 := Scalar.addi c0_i32_3215 v2470
  v2471.toNat
def k0_dev67 (d0 : Dev nD) : Nat :=
  let c0_i32_3321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3302 : BitVec 32 := 2#32
  let v2529 : BitVec 32 := Scalar.addi v2 c2_i32_3302
  let c4_i32_3303 : BitVec 32 := 4#32
  let c0_i32_3304 : BitVec 32 := 0#32
  let v2530 : BitVec 1 := Scalar.cmpi .eq c4_i32_3303 c0_i32_3304
  let c1_i32_3305 : BitVec 32 := 1#32
  let v2531 : BitVec 32 := Scalar.select v2530 c1_i32_3305 c4_i32_3303
  let v2532 : BitVec 32 := Scalar.remsi v2529 v2531
  let c0_i32_3307 : BitVec 32 := 0#32
  let v2534 : BitVec 1 := Scalar.cmpi .slt v2532 c0_i32_3307
  let c0_i32_3308 : BitVec 32 := 0#32
  let v2535 : BitVec 1 := Scalar.cmpi .slt v2531 c0_i32_3308
  let v2536 : BitVec 1 := Scalar.xori v2534 v2535
  let c0_i32_3306 : BitVec 32 := 0#32
  let v2533 : BitVec 1 := Scalar.cmpi .ne v2532 c0_i32_3306
  let v2537 : BitVec 1 := Scalar.andi v2536 v2533
  let v2538 : BitVec 32 := Scalar.addi v2532 v2531
  let v2539 : BitVec 32 := Scalar.select v2537 v2538 v2532
  let c1_i32_3320 : BitVec 32 := 1#32
  let v2540 : BitVec 32 := Scalar.muli v2539 c1_i32_3320
  let v2541 : BitVec 32 := Scalar.addi c0_i32_3321 v2540
  v2541.toNat
def k0_dev68 (d0 : Dev nD) : Nat :=
  let c0_i32_3345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3326 : BitVec 32 := 1#32
  let v2550 : BitVec 32 := Scalar.addi v2 c1_i32_3326
  let c4_i32_3327 : BitVec 32 := 4#32
  let c0_i32_3328 : BitVec 32 := 0#32
  let v2551 : BitVec 1 := Scalar.cmpi .eq c4_i32_3327 c0_i32_3328
  let c1_i32_3329 : BitVec 32 := 1#32
  let v2552 : BitVec 32 := Scalar.select v2551 c1_i32_3329 c4_i32_3327
  let v2553 : BitVec 32 := Scalar.remsi v2550 v2552
  let c0_i32_3331 : BitVec 32 := 0#32
  let v2555 : BitVec 1 := Scalar.cmpi .slt v2553 c0_i32_3331
  let c0_i32_3332 : BitVec 32 := 0#32
  let v2556 : BitVec 1 := Scalar.cmpi .slt v2552 c0_i32_3332
  let v2557 : BitVec 1 := Scalar.xori v2555 v2556
  let c0_i32_3330 : BitVec 32 := 0#32
  let v2554 : BitVec 1 := Scalar.cmpi .ne v2553 c0_i32_3330
  let v2558 : BitVec 1 := Scalar.andi v2557 v2554
  let v2559 : BitVec 32 := Scalar.addi v2553 v2552
  let v2560 : BitVec 32 := Scalar.select v2558 v2559 v2553
  let c1_i32_3344 : BitVec 32 := 1#32
  let v2561 : BitVec 32 := Scalar.muli v2560 c1_i32_3344
  let v2562 : BitVec 32 := Scalar.addi c0_i32_3345 v2561
  v2562.toNat
def k0_dev69 (d0 : Dev nD) : Nat :=
  let c0_i32_3369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3350 : BitVec 32 := 3#32
  let v2571 : BitVec 32 := Scalar.addi v2 c3_i32_3350
  let c4_i32_3351 : BitVec 32 := 4#32
  let c0_i32_3352 : BitVec 32 := 0#32
  let v2572 : BitVec 1 := Scalar.cmpi .eq c4_i32_3351 c0_i32_3352
  let c1_i32_3353 : BitVec 32 := 1#32
  let v2573 : BitVec 32 := Scalar.select v2572 c1_i32_3353 c4_i32_3351
  let v2574 : BitVec 32 := Scalar.remsi v2571 v2573
  let c0_i32_3355 : BitVec 32 := 0#32
  let v2576 : BitVec 1 := Scalar.cmpi .slt v2574 c0_i32_3355
  let c0_i32_3356 : BitVec 32 := 0#32
  let v2577 : BitVec 1 := Scalar.cmpi .slt v2573 c0_i32_3356
  let v2578 : BitVec 1 := Scalar.xori v2576 v2577
  let c0_i32_3354 : BitVec 32 := 0#32
  let v2575 : BitVec 1 := Scalar.cmpi .ne v2574 c0_i32_3354
  let v2579 : BitVec 1 := Scalar.andi v2578 v2575
  let v2580 : BitVec 32 := Scalar.addi v2574 v2573
  let v2581 : BitVec 32 := Scalar.select v2579 v2580 v2574
  let c1_i32_3368 : BitVec 32 := 1#32
  let v2582 : BitVec 32 := Scalar.muli v2581 c1_i32_3368
  let v2583 : BitVec 32 := Scalar.addi c0_i32_3369 v2582
  v2583.toNat
def k0_dev70 (d0 : Dev nD) : Nat :=
  let c0_i32_3475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3456 : BitVec 32 := 2#32
  let v2641 : BitVec 32 := Scalar.addi v2 c2_i32_3456
  let c4_i32_3457 : BitVec 32 := 4#32
  let c0_i32_3458 : BitVec 32 := 0#32
  let v2642 : BitVec 1 := Scalar.cmpi .eq c4_i32_3457 c0_i32_3458
  let c1_i32_3459 : BitVec 32 := 1#32
  let v2643 : BitVec 32 := Scalar.select v2642 c1_i32_3459 c4_i32_3457
  let v2644 : BitVec 32 := Scalar.remsi v2641 v2643
  let c0_i32_3461 : BitVec 32 := 0#32
  let v2646 : BitVec 1 := Scalar.cmpi .slt v2644 c0_i32_3461
  let c0_i32_3462 : BitVec 32 := 0#32
  let v2647 : BitVec 1 := Scalar.cmpi .slt v2643 c0_i32_3462
  let v2648 : BitVec 1 := Scalar.xori v2646 v2647
  let c0_i32_3460 : BitVec 32 := 0#32
  let v2645 : BitVec 1 := Scalar.cmpi .ne v2644 c0_i32_3460
  let v2649 : BitVec 1 := Scalar.andi v2648 v2645
  let v2650 : BitVec 32 := Scalar.addi v2644 v2643
  let v2651 : BitVec 32 := Scalar.select v2649 v2650 v2644
  let c1_i32_3474 : BitVec 32 := 1#32
  let v2652 : BitVec 32 := Scalar.muli v2651 c1_i32_3474
  let v2653 : BitVec 32 := Scalar.addi c0_i32_3475 v2652
  v2653.toNat
def k0_dev71 (d0 : Dev nD) : Nat :=
  let c0_i32_3499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3480 : BitVec 32 := 1#32
  let v2662 : BitVec 32 := Scalar.addi v2 c1_i32_3480
  let c4_i32_3481 : BitVec 32 := 4#32
  let c0_i32_3482 : BitVec 32 := 0#32
  let v2663 : BitVec 1 := Scalar.cmpi .eq c4_i32_3481 c0_i32_3482
  let c1_i32_3483 : BitVec 32 := 1#32
  let v2664 : BitVec 32 := Scalar.select v2663 c1_i32_3483 c4_i32_3481
  let v2665 : BitVec 32 := Scalar.remsi v2662 v2664
  let c0_i32_3485 : BitVec 32 := 0#32
  let v2667 : BitVec 1 := Scalar.cmpi .slt v2665 c0_i32_3485
  let c0_i32_3486 : BitVec 32 := 0#32
  let v2668 : BitVec 1 := Scalar.cmpi .slt v2664 c0_i32_3486
  let v2669 : BitVec 1 := Scalar.xori v2667 v2668
  let c0_i32_3484 : BitVec 32 := 0#32
  let v2666 : BitVec 1 := Scalar.cmpi .ne v2665 c0_i32_3484
  let v2670 : BitVec 1 := Scalar.andi v2669 v2666
  let v2671 : BitVec 32 := Scalar.addi v2665 v2664
  let v2672 : BitVec 32 := Scalar.select v2670 v2671 v2665
  let c1_i32_3498 : BitVec 32 := 1#32
  let v2673 : BitVec 32 := Scalar.muli v2672 c1_i32_3498
  let v2674 : BitVec 32 := Scalar.addi c0_i32_3499 v2673
  v2674.toNat
def k0_dev72 (d0 : Dev nD) : Nat :=
  let c0_i32_3523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3504 : BitVec 32 := 3#32
  let v2683 : BitVec 32 := Scalar.addi v2 c3_i32_3504
  let c4_i32_3505 : BitVec 32 := 4#32
  let c0_i32_3506 : BitVec 32 := 0#32
  let v2684 : BitVec 1 := Scalar.cmpi .eq c4_i32_3505 c0_i32_3506
  let c1_i32_3507 : BitVec 32 := 1#32
  let v2685 : BitVec 32 := Scalar.select v2684 c1_i32_3507 c4_i32_3505
  let v2686 : BitVec 32 := Scalar.remsi v2683 v2685
  let c0_i32_3509 : BitVec 32 := 0#32
  let v2688 : BitVec 1 := Scalar.cmpi .slt v2686 c0_i32_3509
  let c0_i32_3510 : BitVec 32 := 0#32
  let v2689 : BitVec 1 := Scalar.cmpi .slt v2685 c0_i32_3510
  let v2690 : BitVec 1 := Scalar.xori v2688 v2689
  let c0_i32_3508 : BitVec 32 := 0#32
  let v2687 : BitVec 1 := Scalar.cmpi .ne v2686 c0_i32_3508
  let v2691 : BitVec 1 := Scalar.andi v2690 v2687
  let v2692 : BitVec 32 := Scalar.addi v2686 v2685
  let v2693 : BitVec 32 := Scalar.select v2691 v2692 v2686
  let c1_i32_3522 : BitVec 32 := 1#32
  let v2694 : BitVec 32 := Scalar.muli v2693 c1_i32_3522
  let v2695 : BitVec 32 := Scalar.addi c0_i32_3523 v2694
  v2695.toNat
def k0_dev73 (d0 : Dev nD) : Nat :=
  let c0_i32_3629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3610 : BitVec 32 := 2#32
  let v2753 : BitVec 32 := Scalar.addi v2 c2_i32_3610
  let c4_i32_3611 : BitVec 32 := 4#32
  let c0_i32_3612 : BitVec 32 := 0#32
  let v2754 : BitVec 1 := Scalar.cmpi .eq c4_i32_3611 c0_i32_3612
  let c1_i32_3613 : BitVec 32 := 1#32
  let v2755 : BitVec 32 := Scalar.select v2754 c1_i32_3613 c4_i32_3611
  let v2756 : BitVec 32 := Scalar.remsi v2753 v2755
  let c0_i32_3615 : BitVec 32 := 0#32
  let v2758 : BitVec 1 := Scalar.cmpi .slt v2756 c0_i32_3615
  let c0_i32_3616 : BitVec 32 := 0#32
  let v2759 : BitVec 1 := Scalar.cmpi .slt v2755 c0_i32_3616
  let v2760 : BitVec 1 := Scalar.xori v2758 v2759
  let c0_i32_3614 : BitVec 32 := 0#32
  let v2757 : BitVec 1 := Scalar.cmpi .ne v2756 c0_i32_3614
  let v2761 : BitVec 1 := Scalar.andi v2760 v2757
  let v2762 : BitVec 32 := Scalar.addi v2756 v2755
  let v2763 : BitVec 32 := Scalar.select v2761 v2762 v2756
  let c1_i32_3628 : BitVec 32 := 1#32
  let v2764 : BitVec 32 := Scalar.muli v2763 c1_i32_3628
  let v2765 : BitVec 32 := Scalar.addi c0_i32_3629 v2764
  v2765.toNat
def k0_dev74 (d0 : Dev nD) : Nat :=
  let c0_i32_3653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3634 : BitVec 32 := 1#32
  let v2774 : BitVec 32 := Scalar.addi v2 c1_i32_3634
  let c4_i32_3635 : BitVec 32 := 4#32
  let c0_i32_3636 : BitVec 32 := 0#32
  let v2775 : BitVec 1 := Scalar.cmpi .eq c4_i32_3635 c0_i32_3636
  let c1_i32_3637 : BitVec 32 := 1#32
  let v2776 : BitVec 32 := Scalar.select v2775 c1_i32_3637 c4_i32_3635
  let v2777 : BitVec 32 := Scalar.remsi v2774 v2776
  let c0_i32_3639 : BitVec 32 := 0#32
  let v2779 : BitVec 1 := Scalar.cmpi .slt v2777 c0_i32_3639
  let c0_i32_3640 : BitVec 32 := 0#32
  let v2780 : BitVec 1 := Scalar.cmpi .slt v2776 c0_i32_3640
  let v2781 : BitVec 1 := Scalar.xori v2779 v2780
  let c0_i32_3638 : BitVec 32 := 0#32
  let v2778 : BitVec 1 := Scalar.cmpi .ne v2777 c0_i32_3638
  let v2782 : BitVec 1 := Scalar.andi v2781 v2778
  let v2783 : BitVec 32 := Scalar.addi v2777 v2776
  let v2784 : BitVec 32 := Scalar.select v2782 v2783 v2777
  let c1_i32_3652 : BitVec 32 := 1#32
  let v2785 : BitVec 32 := Scalar.muli v2784 c1_i32_3652
  let v2786 : BitVec 32 := Scalar.addi c0_i32_3653 v2785
  v2786.toNat
def k0_dev75 (d0 : Dev nD) : Nat :=
  let c0_i32_3677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3658 : BitVec 32 := 3#32
  let v2795 : BitVec 32 := Scalar.addi v2 c3_i32_3658
  let c4_i32_3659 : BitVec 32 := 4#32
  let c0_i32_3660 : BitVec 32 := 0#32
  let v2796 : BitVec 1 := Scalar.cmpi .eq c4_i32_3659 c0_i32_3660
  let c1_i32_3661 : BitVec 32 := 1#32
  let v2797 : BitVec 32 := Scalar.select v2796 c1_i32_3661 c4_i32_3659
  let v2798 : BitVec 32 := Scalar.remsi v2795 v2797
  let c0_i32_3663 : BitVec 32 := 0#32
  let v2800 : BitVec 1 := Scalar.cmpi .slt v2798 c0_i32_3663
  let c0_i32_3664 : BitVec 32 := 0#32
  let v2801 : BitVec 1 := Scalar.cmpi .slt v2797 c0_i32_3664
  let v2802 : BitVec 1 := Scalar.xori v2800 v2801
  let c0_i32_3662 : BitVec 32 := 0#32
  let v2799 : BitVec 1 := Scalar.cmpi .ne v2798 c0_i32_3662
  let v2803 : BitVec 1 := Scalar.andi v2802 v2799
  let v2804 : BitVec 32 := Scalar.addi v2798 v2797
  let v2805 : BitVec 32 := Scalar.select v2803 v2804 v2798
  let c1_i32_3676 : BitVec 32 := 1#32
  let v2806 : BitVec 32 := Scalar.muli v2805 c1_i32_3676
  let v2807 : BitVec 32 := Scalar.addi c0_i32_3677 v2806
  v2807.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .bf16⟩
  | .hbm, ⟨3, _⟩ => ⟨S1024x512, .bf16⟩
  | .hbm, ⟨4, _⟩ => ⟨S512x1024, .bf16⟩
  | .hbm, ⟨5, _⟩ => ⟨S1024x512, .bf16⟩
  | .hbm, ⟨6, _⟩ => ⟨S512x1024, .bf16⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S512x1024, .f32⟩
  | .hbm, ⟨12, _⟩ => ⟨S1024x512, .f32⟩
  | .hbm, ⟨13, _⟩ => ⟨S512x1024, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x1024, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x1024, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Body.lean ====
/- The kernel's body as one program built from a few steps: a partial product written and sent, a piece awaited and
   read, an activation written and shown to the three peers, an output block written, a finished copy awaited. -/
module

public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Mlp

open Cert.KernelIdeal
open Idealize.ShloMosaic Idealize.ShloMosaic.TcCoe
open Idealize.SL Idealize.SL.Sem

variable {F : FTy → Type} [FloatOps F]

/-- A program of the kernel's core, to its end. -/
abbrev Pr (F : FTy → Type) [FloatOps F] := Prog (TpuEff nD τ sig (Elt F) Λ₀ .tc) PUnit

/-! ## Devices, pieces and semaphores -/

/-- The device `k + 1` steps further round the ring, as the kernel computes it. -/
def peer (d : Dev nD) : Fin 3 → Dev nD
  | 0 => ⟨k0_dev1 d, Gen.k0_dev1_lt d⟩
  | 1 => ⟨k0_dev2 d, Gen.k0_dev2_lt d⟩
  | 2 => ⟨k0_dev3 d, Gen.k0_dev3_lt d⟩

theorem inb5 (L : Fin 3) (s : Fin 4) (k : Fin 3) :
    ∀ a, (![L.val, s.val, k.val + 1, 0, 0] : Fin 5 → Nat) a + S1x1x1x32x512.size a ≤ S3x4x4x32x512.size a := by
  revert L s k; decide
theorem inb4 (L : Fin 3) (s : Fin 4) :
    ∀ a, (![L.val, s.val, 0, 0] : Fin 4 → Nat) a + S1x1x32x512.size a ≤ S3x4x32x512.size a := by
  revert L s; decide
theorem inb3 (p : Fin 6) (s : Fin 4) (k : Fin 3) :
    ∀ a, (![p.val, s.val, k.val + 1] : Fin 3 → Nat) a + S1x1x1.size a ≤ S6x4x4.size a := by
  revert p s k; decide

/-- Piece `(L, s, k + 1)` of a buffer of 3 × 4 × 4 pieces of 32 × 512. -/
abbrev r5 (L : Fin 3) (s : Fin 4) (k : Fin 3) : Rect S3x4x4x32x512 :=
  Rect.unit (s := S3x4x4x32x512) ![L.val, s.val, k.val + 1, 0, 0] S1x1x1x32x512.size (inb5 L s k)
/-- Piece `(L, s)` of a buffer of 3 × 4 pieces of 32 × 512. -/
abbrev r4 (L : Fin 3) (s : Fin 4) : Rect S3x4x32x512 :=
  Rect.unit (s := S3x4x32x512) ![L.val, s.val, 0, 0] S1x1x32x512.size (inb4 L s)

theorem packed5 (L : Fin 3) (s : Fin 4) (k : Fin 3) : (r5 L s k).PackedRows (EltTy.packing .bf16) := by
  revert L s k; decide
theorem words5 (L : Fin 3) (s : Fin 4) (k : Fin 3) : (r5 L s k).WholeWords (EltTy.packing .bf16) := by
  revert L s k; decide
theorem packed4 (L : Fin 3) (s : Fin 4) : (r4 L s).PackedRows (EltTy.packing .bf16) := by
  revert L s; decide
theorem words4 (L : Fin 3) (s : Fin 4) : (r4 L s).WholeWords (EltTy.packing .bf16) := by
  revert L s; decide

/-- The partial products this device sends. -/
abbrev sendB : Memref sig .tc .vmem S3x4x4x32x512 .bf16 := Memref.whole cc0_scratch0
/-- The partial products this device receives. -/
abbrev recvB : Memref sig .tc .vmem S3x4x4x32x512 .bf16 := Memref.whole cc0_scratch1
/-- The activations of this device's rows. -/
abbrev ownB : Memref sig .tc .vmem S3x4x32x512 .bf16 := Memref.whole cc0_scratch2
/-- The activations this device receives. -/
abbrev gathB : Memref sig .tc .vmem S3x4x4x32x512 .bf16 := Memref.whole cc0_scratch3

/-- Piece `(L, s, k + 1)` of such a buffer, seen as a matrix. -/
abbrev piece5 (M : Memref sig .tc .vmem S3x4x4x32x512 .bf16) (L : Fin 3) (s : Fin 4) (k : Fin 3) :
    Memref sig .tc .vmem S32x512 .bf16 :=
  (M.slice (r5 L s k) (fun _ => rfl)).squeeze S32x512 Gen.squeezes_S1x1x1x32x512_S32x512
/-- Piece `(L, s)` of the activations, seen as a matrix. -/
abbrev piece4 (M : Memref sig .tc .vmem S3x4x32x512 .bf16) (L : Fin 3) (s : Fin 4) :
    Memref sig .tc .vmem S32x512 .bf16 :=
  (M.slice (r4 L s) (fun _ => rfl)).squeeze S32x512 Gen.squeezes_S1x1x32x512_S32x512

theorem word5 {M : Memref sig .tc .vmem S3x4x4x32x512 .bf16} (hM : M.IsWhole) (L : Fin 3) (s : Fin 4) (k : Fin 3) :
    (piece5 M L s k).view.WordExact := (hM.wordExact_slice rfl _ (words5 L s k)).reshape _ _
theorem word4 {M : Memref sig .tc .vmem S3x4x32x512 .bf16} (hM : M.IsWhole) (L : Fin 3) (s : Fin 4) :
    (piece4 M L s).view.WordExact := (hM.wordExact_slice rfl _ (words4 L s)).reshape _ _
/-- Semaphore `(p, s, k + 1)` of an array of 6 × 4 × 4. -/
abbrev semOf (A : DmaSems sig S6x4x4) (p : Fin 6) (s : Fin 4) (k : Fin 3) : DmaSem sig :=
  ((A.slice (Rect.unit (s := S6x4x4) ![p.val, s.val, k.val + 1] S1x1x1.size (inb3 p s k))).squeeze S_
    Gen.squeezes_S1x1x1_S_).sem
/-- The semaphore a copy's source completes on. -/
abbrev sendSem := semOf cc0_scratch4
/-- The semaphore a copy's destination completes on. -/
abbrev recvSem := semOf cc0_scratch5

/-- The barrier's semaphore. -/
abbrev barSem : Sem sig := (SemArray.scalar (sig.barrier 0 rfl) : Sems sig S_).sem

/-- The phase in which layer `L`'s partial products are exchanged. -/
abbrev phR (L : Fin 3) : Fin 6 := ⟨2 * L.val, by omega⟩
/-- The phase in which layer `L`'s activations are exchanged. -/
abbrev phG (L : Fin 3) : Fin 6 := ⟨2 * L.val + 1, by omega⟩

/-- Rows `32 s …` of the block of the device `k + 1` steps further. -/
abbrev rowsAt (d : Dev nD) (k : Fin 3) (s : Fin 4) : Rect S512x256 :=
  Rect.unit (s := S512x256) (k0_off1 d (BitVec.ofNat 32 (1 + k.val)) (BitVec.ofNat 32 (32 * s.val))) S32x256.size
    (Gen.k0_off1_inb d k s)
/-- Rows `32 s …` of this device's own block. -/
abbrev rowsOwn (d : Dev nD) (s : Fin 4) : Rect S512x256 :=
  Rect.unit (s := S512x256) (k0_off2 d (BitVec.ofNat 32 (32 * s.val))) S32x256.size (Gen.k0_off2_inb d s)

/-! ## What the steps compute -/

/-- A block of 32 rows of the input times the first matrix. -/
def inDot (w : Vec F S256x512 .bf16) (x : Vec F S32x256 .bf16) : FVec F S32x512 .f32 :=
  matmul dot_S32x256_S256x512_S32x512_1_0_0_1_n_n none (shapeCast S32x256 x Gen.shapeCasts_S32x256_S32x256)
    (shapeCast S256x512 w Gen.shapeCasts_S256x512_S256x512) (constant S32x512 .f32 0x00000000#32)
/-- An activation times the layer's second matrix. -/
def outDot (w : Vec F S512x256 .bf16) (h : FVec F S32x512 .bf16) : FVec F S32x256 .f32 :=
  matmul dot_S32x512_S512x256_S32x256_1_0_0_1_n_n none h
    (shapeCast S512x256 w Gen.shapeCasts_S512x256_S512x256) (constant S32x256 .f32 0x00000000#32)
/-- The same carried through the next layer's first matrix. -/
def nextDot (w : Vec F S512x256 .bf16) (w' : Vec F S256x512 .bf16) (h : FVec F S32x512 .bf16) :
    FVec F S32x512 .f32 :=
  matmul dot_S32x256_S256x512_S32x512_1_0_0_1_n_n none (truncf .bf16 (outDot w h) Gen.bitsLt_bf16_f32)
    (shapeCast S256x512 w' Gen.shapeCasts_S256x512_S256x512) (constant S32x512 .f32 0x00000000#32)
/-- A partial product as it is written to be sent. -/
def toPiece (v : FVec F S32x512 .f32) : FVec F S1x1x1x32x512 .bf16 :=
  shapeCast S1x1x1x32x512 (truncf .bf16 v Gen.bitsLt_bf16_f32) Gen.shapeCasts_S32x512_S1x1x1x32x512
/-- A received piece as a matrix. -/
def ofPiece (v : Vec F S1x1x1x32x512 .bf16) : FVec F S32x512 .bf16 :=
  shapeCast S32x512 v Gen.shapeCasts_S1x1x1x32x512_S32x512
/-- An own activation as a matrix. -/
def ofOwn (v : Vec F S1x1x32x512 .bf16) : FVec F S32x512 .bf16 :=
  shapeCast S32x512 v Gen.shapeCasts_S1x1x32x512_S32x512
/-- A received partial product added. -/
def plus (a : FVec F S32x512 .f32) (v : Vec F S1x1x1x32x512 .bf16) : FVec F S32x512 .f32 :=
  addf a (extf .f32 (ofPiece v) Gen.bitsLt_bf16_f32)
/-- The sum's positive part, as it is written. -/
def act (a : FVec F S32x512 .f32) : FVec F S1x1x32x512 .bf16 :=
  shapeCast S1x1x32x512
    (truncf .bf16 (maximumf a (broadcast S32x512 (Scalar.ofBits .f32 0x00000000#32))) Gen.bitsLt_bf16_f32)
    Gen.shapeCasts_S32x512_S1x1x32x512
/-! ## The steps -/

/-- One copy of 32 × 512 to the device `k + 1` steps further. -/
def copyTo (d : Dev nD) (src dst : Memref sig .tc .vmem S32x512 .bf16) (hs : src.view.WordExact) (hd : dst.view.WordExact)
    (p : Fin 6) (s : Fin 4) (k : Fin 3) (r : Pr F) : Pr F := do
  Prog.lift (.enqueueDma src (.remote (Dev.tc (peer d k)) dst (.dma (sendSem p s k))) (.dma (recvSem p s k.rev))
    hs hd ⟨⟨rfl, Or.inl rfl⟩, trivial⟩)
  r

/-- A partial product written and sent to the device it is for. -/
def sendPart (d : Dev nD) (L : Fin 3) (s : Fin 4) (k : Fin 3) (v : FVec F S32x512 .f32) (r : Pr F) : Pr F := do
  let _ : Vec F S1x1x1x32x512 .bf16 ← Prog.lift (.load sendB (r5 L s k).toLoadRect (View.loadsAt_vmem Gen.h_S1x1x1x32x512))
  Prog.lift (.store sendB (r5 L s k) (toPiece v) Finset.univ
    (View.stores_vmem Gen.h_S1x1x1x32x512 ((Memref.isWhole_whole _).storeExact_slice rfl _ (packed5 L s k)) (fun _ => rfl)) (.inl rfl))
  copyTo d (piece5 sendB L s k) (piece5 recvB L s k.rev)
    (word5 (Memref.isWhole_whole _) L s k) (word5 (Memref.isWhole_whole _) L s k.rev) (phR L) s k r

/-- Layer 0's partial product for the device `k + 1` steps further. -/
def firstPart (d : Dev nD) (w : Vec F S256x512 .bf16) (s : Fin 4) (k : Fin 3) (r : Pr F) : Pr F := do
  let x : Vec F S32x256 .bf16 ← Prog.lift (.load (Memref.whole cc0_stg0_0) (rowsAt d k s).toLoadRect (View.loadsAt_vmem Gen.h_S32x256))
  sendPart d 0 s k (inDot w x) r

/-- Layer 0's partial product for this device. -/
def firstOwn (d : Dev nD) (w : Vec F S256x512 .bf16) (s : Fin 4) (r : FVec F S32x512 .f32 → Pr F) : Pr F := do
  let x : Vec F S32x256 .bf16 ← Prog.lift (.load (Memref.whole cc0_stg0_0) (rowsOwn d s).toLoadRect (View.loadsAt_vmem Gen.h_S32x256))
  r (inDot w x)

/-- A received piece awaited and read. -/
def take (M : Memref sig .tc .vmem S3x4x4x32x512 .bf16) (hM : M.IsWhole) (p : Fin 6) (L : Fin 3) (s : Fin 4) (k : Fin 3)
    (r : Vec F S1x1x1x32x512 .bf16 → Pr F) : Pr F := do
  Prog.lift (.waitDma2 (recvSem p s k) (piece5 M L s k) (piece5 M L s k)
    (word5 hM L s k) (word5 hM L s k))
  let v : Vec F S1x1x1x32x512 .bf16 ← Prog.lift (.load M (r5 L s k).toLoadRect (View.loadsAt_vmem Gen.h_S1x1x1x32x512))
  r v

/-- An own activation sent to the device `k + 1` steps further. -/
def showAct (d : Dev nD) (L : Fin 3) (s : Fin 4) (k : Fin 3) (r : Pr F) : Pr F :=
  copyTo d (piece4 ownB L s) (piece5 gathB L s k.rev)
    (word4 (Memref.isWhole_whole _) L s) (word5 (Memref.isWhole_whole _) L s k.rev) (phG L) s k r

/-- The partial products for this device's rows collected, the activation formed and shown, and read back. -/
def collect (d : Dev nD) (L : Fin 3) (s : Fin 4) (a : FVec F S32x512 .f32)
    (r : Vec F S1x1x32x512 .bf16 → Pr F) : Pr F :=
  take recvB (Memref.isWhole_whole _) (phR L) L s 0 fun v0 =>
  take recvB (Memref.isWhole_whole _) (phR L) L s 1 fun v1 =>
  take recvB (Memref.isWhole_whole _) (phR L) L s 2 fun v2 => do
  let _ : Vec F S1x1x32x512 .bf16 ← Prog.lift (.load ownB (r4 L s).toLoadRect (View.loadsAt_vmem Gen.h_S1x1x32x512))
  Prog.lift (.store ownB (r4 L s) (act (plus (plus (plus a v0) v1) v2)) Finset.univ
    (View.stores_vmem Gen.h_S1x1x32x512 ((Memref.isWhole_whole _).storeExact_slice rfl _ (packed4 L s)) (fun _ => rfl)) (.inl rfl))
  [1, 0, 2].foldr (showAct d L s) do
  let h : Vec F S1x1x32x512 .bf16 ← Prog.lift (.load ownB (r4 L s).toLoadRect (View.loadsAt_vmem Gen.h_S1x1x32x512))
  r h

/-- A received activation carried on to the next layer's partial product for the device it came from. -/
def carry (d : Dev nD) (L L' : Fin 3) (w : Vec F S512x256 .bf16) (w' : Vec F S256x512 .bf16) (s : Fin 4) (k : Fin 3)
    (r : Pr F) : Pr F :=
  take gathB (Memref.isWhole_whole _) (phG L) L s k fun h => sendPart d L' s k (nextDot w w' (ofPiece h)) r

/-- A block of the output written. -/
def putOut (off : Fin 2 → Nat) (hoff : ∀ a, off a + S32x256.size a ≤ S512x256.size a) (v : FVec F S32x256 .f32)
    (r : Pr F) : Pr F := do
  let _ : Vec F S32x256 .f32 ← Prog.lift (.load (Memref.whole cc0_stg7_0) (Rect.unit (s := S512x256) off S32x256.size hoff).toLoadRect
    (View.loadsAt_vmem Gen.h_S32x256))
  Prog.lift (.store (Memref.whole cc0_stg7_0) (Rect.unit (s := S512x256) off S32x256.size hoff) v Finset.univ
    (View.stores_vmem_bits_univ Gen.h_S32x256 rfl) (.inl rfl))
  r

/-- A received activation carried on to the output. -/
def finish (d : Dev nD) (w : Vec F S512x256 .bf16) (s : Fin 4) (k : Fin 3) (r : Pr F) : Pr F :=
  take gathB (Memref.isWhole_whole _) (phG 2) 2 s k fun h =>
    putOut (k0_off1 d (BitVec.ofNat 32 (1 + k.val)) (BitVec.ofNat 32 (32 * s.val))) (Gen.k0_off1_inb d k s)
      (outDot w (ofPiece h)) r

/-- This device's own rows of the output. -/
def finishOwn (d : Dev nD) (w : Vec F S512x256 .bf16) (s : Fin 4) (a : FVec F S32x512 .f32) (r : Pr F) : Pr F :=
  collect d 2 s a fun h =>
    putOut (k0_off2 d (BitVec.ofNat 32 (32 * s.val))) (Gen.k0_off2_inb d s) (outDot w (ofOwn h)) r

/-- The end of a partial product's copy awaited at its source. -/
def endPart (L : Fin 3) (s : Fin 4) (k : Fin 3) (r : Pr F) : Pr F := do
  Prog.lift (.waitDma2 (sendSem (phR L) s k) (piece5 recvB L s k.rev) (piece5 sendB L s k)
    (word5 (Memref.isWhole_whole _) L s k.rev) (word5 (Memref.isWhole_whole _) L s k))
  r

/-- The end of an activation's copy awaited at its source. -/
def endAct (L : Fin 3) (s : Fin 4) (k : Fin 3) (r : Pr F) : Pr F := do
  Prog.lift (.waitDma2 (sendSem (phG L) s k) (piece5 gathB L s k.rev) (piece4 ownB L s)
    (word5 (Memref.isWhole_whole _) L s k.rev) (word4 (Memref.isWhole_whole _) L s))
  r

/-- A matrix of 256 rows read whole. -/
def loadIn (M : Memref sig .tc .vmem S256x512 .bf16) (r : Vec F S256x512 .bf16 → Pr F) : Pr F := do
  let w : Vec F S256x512 .bf16 ← Prog.lift (.load M
    (Rect.unit (s := S256x512) ![0, 0] S256x512.size Gen.inb_S256x512_S256x512_0_0).toLoadRect (View.loadsAt_vmem Gen.h_S256x512))
  r w
/-- A matrix of 512 rows read whole. -/
def loadOut (M : Memref sig .tc .vmem S512x256 .bf16) (r : Vec F S512x256 .bf16 → Pr F) : Pr F := do
  let w : Vec F S512x256 .bf16 ← Prog.lift (.load M
    (Rect.unit (s := S512x256) ![0, 0] S512x256.size Gen.inb_S512x256_S512x256_0_0).toLoadRect (View.loadsAt_vmem Gen.h_S512x256))
  r w

/-! ## The whole -/

/-- All pieces, block by block, each block's three in the order `o`. -/
abbrev pairs (o : List (Fin 3)) : List (Fin 4 × Fin 3) := [0, 1, 2, 3].flatMap fun s => o.map fun k => (s, k)
/-- The far peer first. -/
abbrev far : List (Fin 3) := [1, 0, 2]
/-- The peers in ring order. -/
abbrev near : List (Fin 3) := [0, 1, 2]

/-- The three peers told, their three words awaited. -/
def meet (d : Dev nD) (r : Pr F) : Pr F := do
  semSignalWord (peer d 0) barSem 1#32
  semSignalWord (peer d 1) barSem 1#32
  semSignalWord (peer d 2) barSem 1#32
  semWaitWord barSem 3#32
  r

/-- Layer 0's partial products. -/
def start (d : Dev nD) (r : (Fin 4 → FVec F S32x512 .f32) → Pr F) : Pr F :=
  loadIn (Memref.whole cc0_stg1_0) fun w =>
  (pairs far).foldr (fun x => firstPart d w x.1 x.2) <|
  firstOwn d w 0 fun a0 => firstOwn d w 1 fun a1 => firstOwn d w 2 fun a2 => firstOwn d w 3 fun a3 => r ![a0, a1, a2, a3]

/-- A layer but the last: its activations, and the next layer's partial products. -/
def layer (d : Dev nD) (L L' : Fin 3) (Mo : Memref sig .tc .vmem S512x256 .bf16) (Mi : Memref sig .tc .vmem S256x512 .bf16)
    (a : Fin 4 → FVec F S32x512 .f32) (r : (Fin 4 → FVec F S32x512 .f32) → Pr F) : Pr F :=
  loadOut Mo fun w => loadIn Mi fun w' =>
  collect d L 0 (a 0) fun h0 => collect d L 1 (a 1) fun h1 => collect d L 2 (a 2) fun h2 => collect d L 3 (a 3) fun h3 =>
  (pairs near).foldr (fun x => carry d L L' w w' x.1 x.2) <|
  r ![nextDot w w' (ofOwn h0), nextDot w w' (ofOwn h1), nextDot w w' (ofOwn h2), nextDot w w' (ofOwn h3)]

/-- The last layer: its activations, and the output. -/
def last (d : Dev nD) (a : Fin 4 → FVec F S32x512 .f32) (r : Pr F) : Pr F :=
  loadOut (Memref.whole cc0_stg6_0) fun w =>
  [0, 1, 2, 3].foldr (fun s => finishOwn d w s (a s)) <|
  (pairs near).foldr (fun x => finish d w x.1 x.2) r

/-- Every copy's end awaited. -/
def settle (r : Pr F) : Pr F :=
  (pairs far).foldr (fun x => endPart 0 x.1 x.2) <| (pairs far).foldr (fun x => endAct 0 x.1 x.2) <|
  (pairs near).foldr (fun x => endPart 1 x.1 x.2) <| (pairs far).foldr (fun x => endAct 1 x.1 x.2) <|
  (pairs near).foldr (fun x => endPart 2 x.1 x.2) <| (pairs far).foldr (fun x => endAct 2 x.1 x.2) r

/-- The kernel's body on device `d`. -/
def run (d : Dev nD) : Pr F :=
  meet d <| start d fun a =>
  layer d 0 1 (Memref.whole cc0_stg2_0) (Memref.whole cc0_stg3_0) a fun a =>
  layer d 1 2 (Memref.whole cc0_stg4_0) (Memref.whole cc0_stg5_0) a fun a =>
  last d a <| settle (pure ⟨⟩)

/-- The printed body is this program. -/
theorem body_eq (t : Fin cfg0.N) :
    Gen.bodyAt0 (F := F) t = ((Prog.lift .deviceId : Prog (TpuEff nD τ sig (Elt F) Λ₀ .tc) (Dev nD)) >>= fun d => run d) := by
  chain_rfl

end Cert.Mlp

end
-- ==== Proof.Pieces.lean ====
/- Pieces of the scratch buffers: reading and writing one, and cutting a buffer into its pieces and joining it back. -/
module

public import proofs.«01_k».proof.Proof.Body
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring.FamCut
public import Idealize.ShloMosaic.Lib.ReshapeSlab
public import Idealize.ShloMosaic.Lib.ViewIndex
public import Idealize.ShloMosaic.Lib.Tactic

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two protocols' ghost states: the pipeline's, and the exchange's with three duties to a round. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-- The weakest precondition of the rest of device `c`'s program. -/
abbrev wps (c : Dev nD) (r : Pr F) (Q : PUnit → sProp 𝕄) : sProp 𝕄 :=
  wp frame (wpE (defs₀ (F := F)) 𝒱₀ (c : Thread nD τ) none) Set.univ r Q

/-! ## One piece -/

section One

variable {sp : CoreSpace} {sh s' : Shape} {e : EltTy} (c : Dev nD) (M : Memref sig .tc sp sh e) (r : Rect sh)
  (hu : ∀ a, r.stride a = 1) (hq : r.shape.Squeezes s')

/-- A load of the piece `r`, seen squeezed, reads what the piece holds. -/
theorem wp_load_piece (Q : PUnit → sProp 𝕄) (q : PosShare TreeShare) (X : s'.Idx → Elt F e) (hd : r.shape.ShapeCasts s') (hc : s'.ShapeCasts r.shape) {hl : M.view.LoadsAt r.toLoadRect}
    (k : (r.shape.Idx → Elt F e) → Pr F) :
    (owns (c : Thread nD τ) ((M.slice r hu).squeeze s' hq) q X : sProp 𝕄)
      ⊢ iprop((owns (c : Thread nD τ) ((M.slice r hu).squeeze s' hq) q X -∗ wps c (k (shapeCast r.shape X hc)) Q)
        -∗ wps c (.op (.load M r.toLoadRect hl) k) Q) := by
  unfold owns
  iintro ⟨%f, %hf, H⟩ Hk
  have hv : (M.access r).read (Elt F) f = shapeCast r.shape X hc := by
    subst hf
    exact (shapeCast_shapeCast ((M.access r).read (Elt F) f) hd hc).symm
  have hS : (M.access r).set ⊆ ((M.slice r hu).squeeze s' hq).view.set := subset_of_eq (View.set_reshape _ _).symm
  iapply (wp_load_rect 𝒱₀ (c : Thread nD τ) none Set.univ (m := M) (r := r) (f := f) hS) $$ H
  iintro H
  rw [hv]
  iapply Hk
  iexists f
  isplitr; · ipureintro; exact hf
  iexact H

/-- A store into the piece `r` leaves it holding what was stored. -/
theorem wp_store_piece (Q : PUnit → sProp 𝕄) (w : r.shape.Idx → Elt F e) (hc : r.shape.ShapeCasts s') {hx : (M.access r).Stores Finset.univ}
    {hm : (Finset.univ : Finset r.shape.Idx) = Finset.univ ∨ ∀ a, r.stride a = 1} (k : PUnit → Pr F) :
    (iprop(∃ X, owns (c : Thread nD τ) ((M.slice r hu).squeeze s' hq) fullShare X) : sProp 𝕄)
      ⊢ iprop((owns (c : Thread nD τ) ((M.slice r hu).squeeze s' hq) fullShare (shapeCast s' w hc) -∗ wps c (k ⟨⟩) Q)
        -∗ wps c (.op (.store M r w Finset.univ hx hm) k) Q) := by
  unfold owns
  iintro ⟨%X, %f, -, H⟩ Hk
  iapply (wp_store 𝒱₀ (c : Thread nD τ) none Set.univ (m := M) (r := r) (f := f)
    (S := ((M.slice r hu).squeeze s' hq).view.set) (subset_of_eq (View.set_reshape _ _).symm)) $$ H
  iintro H
  iapply Hk
  iexists _
  isplitr
  · ipureintro
    show shapeCast s' ((M.access r).read (Elt F) ((M.access r).write (Elt F) f w Finset.univ)) hc = _
    rw [View.read_write_univ]
  iexact H

end One

/-! ## All pieces of a buffer -/

/-- A memref of device `c` held whole at some contents. -/
def held (c : Dev nD) {sp : CoreSpace} {s : Shape} {e : EltTy} (M : Memref sig .tc sp s e) : sProp 𝕄 :=
  iprop(∃ X, owns (c : Thread nD τ) M fullShare X)

instance held_storable (c : Dev nD) {sp : CoreSpace} {s : Shape} {e : EltTy} (M : Memref sig .tc sp s e) :
    BI.Storable (upEmb : UEmb _ 𝕄) (held (F := F) c M) := by unfold held; infer_instance

omit [FloatOps F] in
/-- Holding a memref at some contents is holding its elements at some contents of the buffer. -/
theorem held_eq (c : Dev nD) {sp : CoreSpace} {s : Shape} {e : EltTy} (M : Memref sig .tc sp s e) :
    (held c M : sProp 𝕄) = iprop(∃ f, M.view.loc (c : Thread nD τ) ↦[M.view.set]{fullShare} f) := by
  unfold held owns
  have h₁ : iprop(∃ X, ∃ f, ⌜M.view.read (Elt F) f = X⌝ ∗ (M.view.loc (c : Thread nD τ) ↦[M.view.set]{fullShare} f))
      ⊢ (iprop(∃ f, M.view.loc (c : Thread nD τ) ↦[M.view.set]{fullShare} f) : sProp 𝕄) := by
    iintro ⟨%X, %f, -, H⟩; iexists f; iexact H
  have h₂ : (iprop(∃ f, M.view.loc (c : Thread nD τ) ↦[M.view.set]{fullShare} f) : sProp 𝕄)
      ⊢ iprop(∃ X, ∃ f, ⌜M.view.read (Elt F) f = X⌝ ∗ (M.view.loc (c : Thread nD τ) ↦[M.view.set]{fullShare} f)) := by
    iintro ⟨%f, H⟩; iexists _; iexists f
    isplitr; · ipureintro; rfl
    iexact H
  exact BI.equiv_iff.mp ⟨h₁, h₂⟩

/-- The pieces of a buffer of 3 × 4 × 3 used pieces do not meet. -/
theorem disjoint5 (M : Memref sig .tc .vmem S3x4x4x32x512 .bf16) (x y : Fin 3 × Fin 4 × Fin 3) (h : x ≠ y) :
    Disjoint (piece5 M x.1 x.2.1 x.2.2).view.set (piece5 M y.1 y.2.1 y.2.2).view.set := by
  have hs : ∀ z : Fin 3 × Fin 4 × Fin 3, (piece5 M z.1 z.2.1 z.2.2).view.set = (M.view.slice (r5 z.1 z.2.1 z.2.2)).set :=
    fun z => View.set_reshape _ _
  rw [hs, hs]
  refine View.disjoint_slice ?_
  obtain ⟨L, s, k⟩ := x
  obtain ⟨L', s', k'⟩ := y
  by_cases h1 : L = L'
  · by_cases h2 : s = s'
    · refine Rect.disjoint_of_separated _ _ 2 ?_
      have h3 : k ≠ k' := fun h3 => h (by rw [h1, h2, h3])
      have h4 := fun h4 => h3 (Fin.ext h4)
      show (1 = 0 ∨ (k.val + 1) + 1 * (1 - 1) < k'.val + 1) ∨ (1 = 0 ∨ (k'.val + 1) + 1 * (1 - 1) < k.val + 1)
      omega
    · refine Rect.disjoint_of_separated _ _ 1 ?_
      have h4 := fun h4 => h2 (Fin.ext h4)
      show (1 = 0 ∨ s.val + 1 * (1 - 1) < s'.val) ∨ (1 = 0 ∨ s'.val + 1 * (1 - 1) < s.val)
      omega
  · refine Rect.disjoint_of_separated _ _ 0 ?_
    have h4 := fun h4 => h1 (Fin.ext h4)
    show (1 = 0 ∨ L.val + 1 * (1 - 1) < L'.val) ∨ (1 = 0 ∨ L'.val + 1 * (1 - 1) < L.val)
    omega

/-- The pieces of a buffer of 3 × 4 pieces do not meet. -/
theorem disjoint4 (M : Memref sig .tc .vmem S3x4x32x512 .bf16) (x y : Fin 3 × Fin 4) (h : x ≠ y) :
    Disjoint (piece4 M x.1 x.2).view.set (piece4 M y.1 y.2).view.set := by
  have hs : ∀ z : Fin 3 × Fin 4, (piece4 M z.1 z.2).view.set = (M.view.slice (r4 z.1 z.2)).set :=
    fun z => View.set_reshape _ _
  rw [hs, hs]
  refine View.disjoint_slice ?_
  obtain ⟨L, s⟩ := x
  obtain ⟨L', s'⟩ := y
  by_cases h1 : L = L'
  · refine Rect.disjoint_of_separated _ _ 1 ?_
    have h2 : s ≠ s' := fun h2 => h (by rw [h1, h2])
    have h4 := fun h4 => h2 (Fin.ext h4)
    show (1 = 0 ∨ s.val + 1 * (1 - 1) < s'.val) ∨ (1 = 0 ∨ s'.val + 1 * (1 - 1) < s.val)
    omega
  · refine Rect.disjoint_of_separated _ _ 0 ?_
    have h4 := fun h4 => h1 (Fin.ext h4)
    show (1 = 0 ∨ L.val + 1 * (1 - 1) < L'.val) ∨ (1 = 0 ∨ L'.val + 1 * (1 - 1) < L.val)
    omega

/-- The elements of a buffer's pieces. -/
abbrev sets5 (c : Dev nD) (M : Memref sig .tc .vmem S3x4x4x32x512 .bf16) :
    Fin 3 × Fin 4 × Fin 3 → Finset (Idx (M.view.loc (c : Thread nD τ))) :=
  fun x => (piece5 M x.1 x.2.1 x.2.2).view.set
/-- The same for the activations. -/
abbrev sets4 (c : Dev nD) (M : Memref sig .tc .vmem S3x4x32x512 .bf16) :
    Fin 3 × Fin 4 → Finset (Idx (M.view.loc (c : Thread nD τ))) :=
  fun x => (piece4 M x.1 x.2).view.set

/-- What a buffer holds beside the pieces `I`, at some contents. -/
def besides {ℓ : Loc nD τ sig} {B : Type} [Fintype B] (I : B → Finset (Idx ℓ)) : sProp 𝕄 :=
  iprop(∃ f, ℓ ↦[Ring.restOf I]{fullShare} f)

omit [FloatOps F] in
/-- A buffer of 3 × 4 × 3 used pieces cut. -/
theorem cut5 (c : Dev nD) (M : Memref sig .tc .vmem S3x4x4x32x512 .bf16) :
    (iprop(∃ f, M.view.loc (c : Thread nD τ) ↦{fullShare} f) : sProp 𝕄)
      ⊢ iprop((bigSep Finset.univ fun x : Fin 3 × Fin 4 × Fin 3 => held c (piece5 M x.1 x.2.1 x.2.2)) ∗ besides (sets5 c M)) := by
  simp only [held_eq]
  exact Ring.fam_split_ex (sets5 c M) (disjoint5 M)

omit [FloatOps F] in
/-- The activations' buffer cut. -/
theorem cut4 (c : Dev nD) (M : Memref sig .tc .vmem S3x4x32x512 .bf16) :
    (iprop(∃ f, M.view.loc (c : Thread nD τ) ↦{fullShare} f) : sProp 𝕄)
      ⊢ iprop((bigSep Finset.univ fun x : Fin 3 × Fin 4 => held c (piece4 M x.1 x.2)) ∗ besides (sets4 c M)) := by
  simp only [held_eq]
  exact Ring.fam_split_ex (sets4 c M) (disjoint4 M)

/-- A buffer of 3 × 4 × 3 used pieces joined back. -/
theorem join5 (c : Dev nD) (M : Memref sig .tc .vmem S3x4x4x32x512 .bf16) :
    iprop((bigSep Finset.univ fun x : Fin 3 × Fin 4 × Fin 3 => held c (piece5 M x.1 x.2.1 x.2.2)) ∗ besides (sets5 c M))
      ⊢ (iprop(∃ f, M.view.loc (c : Thread nD τ) ↦{fullShare} f) : sProp 𝕄) := by
  simp only [held_eq]
  exact Ring.fam_join (sets5 c M) (disjoint5 M) (fun _ => Classical.arbitrary _)

/-- The activations' buffer joined back. -/
theorem join4 (c : Dev nD) (M : Memref sig .tc .vmem S3x4x32x512 .bf16) :
    iprop((bigSep Finset.univ fun x : Fin 3 × Fin 4 => held c (piece4 M x.1 x.2)) ∗ besides (sets4 c M))
      ⊢ (iprop(∃ f, M.view.loc (c : Thread nD τ) ↦{fullShare} f) : sProp 𝕄) := by
  simp only [held_eq]
  exact Ring.fam_join (sets4 c M) (disjoint4 M) (fun _ => Classical.arbitrary _)

end Cert.Mlp

end
-- ==== Proof.Spec.lean ====
/- What every device computes in every layer, from the devices' arguments, and what each copy carries. -/
module

public import proofs.«01_k».proof.Proof.Pieces

@[expose] public section

noncomputable section

namespace Cert.Mlp

open Cert.KernelIdeal
open Idealize.ShloMosaic Idealize.ShloMosaic.TcCoe

variable {F : FTy → Type} [FloatOps F]

/-! ## The ring -/

theorem peer_back (c : Dev nD) (k : Fin 3) : peer (peer c k) k.rev = c := by revert c k; decide +kernel
theorem peer_inj (c d : Dev nD) (k : Fin 3) (h : peer c k = peer d k) : c = d := by
  rw [← peer_back c k, ← peer_back d k, h]
/-- Step `k` round the ring, as a permutation of the devices. -/
def turn (k : Fin 3) : Dev nD ≃ Dev nD :=
  ⟨fun c => peer c k, fun c => peer c k.rev, fun c => peer_back c k,
    fun c => by have := peer_back c k.rev; rwa [Fin.rev_rev] at this⟩

/-! ## Copies -/

/-- A copy: of a partial product or (`true`) an activation, of layer `L`, for block `s`, to or from the device
    `k + 1` steps further. -/
abbrev XI : Type := Bool × Fin 3 × Fin 4 × Fin 3

/-- The phase a copy is made in. -/
def ph (x : XI) : Fin 6 := if x.1 then phG x.2.1 else phR x.2.1
/-- The same copy as its other end names it. -/
def XI.back (x : XI) : XI := (x.1, x.2.1, x.2.2.1, x.2.2.2.rev)

theorem XI.back_back (x : XI) : x.back.back = x := by
  obtain ⟨b, L, s, k⟩ := x
  show (b, L, s, k.rev.rev) = _
  rw [Fin.rev_rev]
theorem ph_back (x : XI) : ph x.back = ph x := rfl

/-! ## Values -/

/-- The arguments of every device. -/
structure Args (F : FTy → Type) where
  x : Dev nD → Vec F S512x256 .bf16
  wi : Fin 3 → Dev nD → Vec F S256x512 .bf16
  wo : Fin 3 → Dev nD → Vec F S512x256 .bf16

/-- A layer's partial products: each device's for its own rows, and for the rows of the device `k + 1` steps further. -/
structure Lay (F : FTy → Type) where
  own : Dev nD → Fin 4 → FVec F S32x512 .f32
  part : Dev nD → Fin 3 → Fin 4 → FVec F S32x512 .f32

/-- A matrix as a piece of a buffer of 3 × 4 × 4. -/
def asPiece (v : FVec F S32x512 .bf16) : Vec F S1x1x1x32x512 .bf16 :=
  shapeCast S1x1x1x32x512 v Gen.shapeCasts_S32x512_S1x1x1x32x512
/-- A matrix as a piece of a buffer of 3 × 4. -/
def asOwn (v : FVec F S32x512 .bf16) : Vec F S1x1x32x512 .bf16 :=
  shapeCast S1x1x32x512 v Gen.shapeCasts_S32x512_S1x1x32x512

omit [FloatOps F] in
theorem ofPiece_asPiece (v : FVec F S32x512 .bf16) : ofPiece (asPiece v) = v := shapeCast_shapeCast _ _ _
omit [FloatOps F] in
theorem ofOwn_asOwn (v : FVec F S32x512 .bf16) : ofOwn (asOwn v) = v := shapeCast_shapeCast _ _ _

/-- A partial product as it travels. -/
def sent (v : FVec F S32x512 .f32) : FVec F S32x512 .bf16 := truncf .bf16 v Gen.bitsLt_bf16_f32

theorem ofPiece_toPiece (v : FVec F S32x512 .f32) : ofPiece (toPiece v) = sent v := shapeCast_shapeCast _ _ _

/-- The activation of block `s` of device `c`'s rows: its own partial product and the three received, summed; the
    positive part. -/
def hidden (l : Lay F) (c : Dev nD) (s : Fin 4) : FVec F S32x512 .bf16 :=
  ofOwn (act (plus (plus (plus (l.own c s) (asPiece (sent (l.part (peer c 0) (Fin.rev 0) s))))
    (asPiece (sent (l.part (peer c 1) (Fin.rev 1) s)))) (asPiece (sent (l.part (peer c 2) (Fin.rev 2) s)))))

/-- Rows `32 s …` of the block of the device `k + 1` steps further, of device `c`'s columns of the input. -/
def rowsOf (A : Args F) (c : Dev nD) (k : Fin 3) (s : Fin 4) : Vec F S32x256 .bf16 :=
  ((Memref.whole cc0_stg0_0 : Memref sig .tc .vmem S512x256 .bf16).access (rowsAt c k s)).read (Elt F) (A.x c)
/-- Rows `32 s …` of its own block. -/
def rowsMine (A : Args F) (c : Dev nD) (s : Fin 4) : Vec F S32x256 .bf16 :=
  ((Memref.whole cc0_stg0_0 : Memref sig .tc .vmem S512x256 .bf16).access (rowsOwn c s)).read (Elt F) (A.x c)

/-- Layer 0's partial products. -/
def firstLay (A : Args F) : Lay F where
  own c s := inDot (A.wi 0 c) (rowsMine A c s)
  part c k s := inDot (A.wi 0 c) (rowsOf A c k s)
/-- The next layer's. -/
def nextLay (A : Args F) (L L' : Fin 3) (l : Lay F) : Lay F where
  own c s := nextDot (A.wo L c) (A.wi L' c) (hidden l c s)
  part c k s := nextDot (A.wo L c) (A.wi L' c) (hidden l (peer c k) s)
/-- Every layer's. -/
def lay (A : Args F) : Fin 3 → Lay F
  | 0 => firstLay A
  | 1 => nextLay A 0 1 (firstLay A)
  | 2 => nextLay A 1 2 (nextLay A 0 1 (firstLay A))

/-- What copy `x` carries away from device `c`. -/
def msg (A : Args F) (c : Dev nD) (x : XI) : FVec F S32x512 .bf16 :=
  if x.1 then hidden (lay A x.2.1) c x.2.2.1 else sent ((lay A x.2.1).part c x.2.2.2 x.2.2.1)

/-- The output's block for rows `32 s …` of device `t`'s block, on device `c`. -/
def outBlk (A : Args F) (c t : Dev nD) (s : Fin 4) : FVec F S32x256 .f32 := outDot (A.wo 2 c) (hidden (lay A 2) t s)

/-- The output of device `c`. -/
def outArr (A : Args F) (c : Dev nD) : Vec F S512x256 .f32 := fun i =>
  outBlk A c ⟨(i 0).val / 128, by have : (i 0).val < 512 := (i 0).isLt; show _ < 4; omega⟩
    ⟨(i 0).val % 128 / 32, by omega⟩
    (fun a => match a with
      | ⟨0, _⟩ => ⟨(i 0).val % 32, by show _ < 32; omega⟩
      | ⟨1, _⟩ => ⟨(i 1).val, (i 1).isLt⟩)

end Cert.Mlp

end
-- ==== Proof.Sched.lean ====
/- The exchange: which semaphore counts what, who pays it, what its wait hands over, and in which order waits are due. -/
module

public import proofs.«01_k».proof.Proof.Spec

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- A device's semaphores: the barrier's (`none`), and for every copy the one its source completes on (`false`) and the
    one its destination completes on (`true`). -/
abbrev CI : Type := Option (Bool × XI)

abbrev bar : CI := none
abbrev snd (x : XI) : CI := some (false, x)
abbrev rcv (x : XI) : CI := some (true, x)

def csem : CI → SemLoc sig
  | none => .reg barSem
  | some (false, x) => .dma (sendSem (ph x) x.2.2.1 x.2.2.2)
  | some (true, x) => .dma (recvSem (ph x) x.2.2.1 x.2.2.2)

abbrev cell (c : Dev nD) (i : CI) : GSem nD τ sig := ((c : Thread nD τ), csem i)

theorem sendSem_val (p : Fin 6) (s : Fin 4) (k : Fin 3) : (sendSem p s k).val = 9 + 16 * p.val + 4 * s.val + k.val := by
  revert p s k; decide +kernel
theorem recvSem_val (p : Fin 6) (s : Fin 4) (k : Fin 3) : (recvSem p s k).val = 105 + 16 * p.val + 4 * s.val + k.val := by
  revert p s k; decide +kernel

theorem ph_val (x : XI) : (ph x).val = 2 * x.2.1.val + x.1.toNat := by
  obtain ⟨b, L, s, k⟩ := x; cases b <;> rfl

theorem xi_ext {x y : XI} (h : 16 * (ph x).val + 4 * x.2.2.1.val + x.2.2.2.val = 16 * (ph y).val + 4 * y.2.2.1.val + y.2.2.2.val) : x = y := by
  rw [ph_val, ph_val] at h
  obtain ⟨b, L, s, k⟩ := x
  obtain ⟨b', L', s', k'⟩ := y
  have hb : b.toNat < 2 := by cases b <;> decide
  have hb' : b'.toNat < 2 := by cases b' <;> decide
  have e1 : b.toNat = b'.toNat := by simp only at h; omega
  have e2 : L = L' := Fin.ext (by simp only at h; omega)
  have e3 : s = s' := Fin.ext (by simp only at h; omega)
  have e4 : k = k' := Fin.ext (by simp only at h; omega)
  have e5 : b = b' := by revert e1; cases b <;> cases b' <;> decide
  rw [e2, e3, e4, e5]

theorem csem_inj : Function.Injective csem := by
  have bound : ∀ x : XI, 16 * (ph x).val + 4 * x.2.2.1.val + x.2.2.2.val < 96 := fun x => by omega
  rintro (_ | ⟨_ | _, x⟩) (_ | ⟨_ | _, y⟩) h
  · rfl
  · cases h
  · cases h
  · cases h
  · have e := congrArg Fin.val (SemLoc.dma.inj h)
    rw [sendSem_val, sendSem_val] at e
    rw [xi_ext (x := x) (y := y) (by omega)]
  · have e := congrArg Fin.val (SemLoc.dma.inj h)
    rw [sendSem_val, recvSem_val] at e
    have := bound x
    omega
  · cases h
  · have e := congrArg Fin.val (SemLoc.dma.inj h)
    rw [sendSem_val, recvSem_val] at e
    have := bound y
    omega
  · have e := congrArg Fin.val (SemLoc.dma.inj h)
    rw [recvSem_val, recvSem_val] at e
    rw [xi_ext (x := x) (y := y) (by omega)]

open Classical in
/-- Which of the exchange's semaphores a semaphore is. -/
def which (sm : SemLoc sig) : Option CI := if h : ∃ i, csem i = sm then some h.choose else none

theorem which_csem (i : CI) : which (csem i) = some i := by
  unfold which
  have h : ∃ j, csem j = csem i := ⟨i, rfl⟩
  rw [dif_pos h]
  exact congrArg some (csem_inj h.choose_spec)

theorem cell_inj {c d : Dev nD} {i j : CI} (h : cell c i = cell d j) : c = d ∧ i = j :=
  ⟨by have := congrArg (fun g : GSem nD τ sig => g.1.1) h; exact this, csem_inj (congrArg Prod.snd h)⟩

/-! ## What the copies move -/

/-- The buffer partial products, or (`true`) activations, land in. -/
def into : Bool → Memref sig .tc .vmem S3x4x4x32x512 .bf16
  | false => recvB
  | true => gathB
theorem into_whole : ∀ b, (into b).IsWhole
  | false => Memref.isWhole_whole _
  | true => Memref.isWhole_whole _
/-- Where copy `x` lands. -/
abbrev land (x : XI) : Memref sig .tc .vmem S32x512 .bf16 := piece5 (into x.1) x.2.1 x.2.2.1 x.2.2.2
/-- Where copy `x` comes from. -/
def src : XI → Memref sig .tc .vmem S32x512 .bf16
  | (false, L, s, k) => piece5 sendB L s k
  | (true, L, s, _) => piece4 ownB L s
/-- The share of an activation that the copy to the device `k + 1` steps further reads. -/
def lent : Fin 3 → PosShare TreeShare
  | 0 => fullShare.right.left
  | 1 => fullShare.right.right.left
  | 2 => fullShare.right.right.right
/-- The share of its source a copy reads. -/
def share : XI → PosShare TreeShare
  | (false, _, _, _) => fullShare
  | (true, _, _, k) => lent k

/-- The units a copy counts. -/
abbrev N : ℕ := (piece5 recvB 0 0 0).view.dmaCredit
theorem N_pos : 0 < N := View.dmaCredit_pos _ (by decide)
theorem credit_land (x : XI) : (land x).view.dmaCredit = N := by
  obtain ⟨b, L, s, k⟩ := x; cases b <;> rfl
theorem credit_src (x : XI) : (src x).view.dmaCredit = N := by
  obtain ⟨b, L, s, k⟩ := x; cases b <;> rfl

/-- What a copy's landing hands to device `c`. -/
def rcvPay (A : Args F) (c : Dev nD) (x : XI) : sProp 𝕄 :=
  owns (c : Thread nD τ) (land x) fullShare (msg A (peer c x.2.2.2) x.back)
/-- What the end of a copy hands back to device `c`. -/
def sndPay (A : Args F) (c : Dev nD) (x : XI) : sProp 𝕄 :=
  owns (c : Thread nD τ) (src x) (share x) (msg A c x)
/-- What the word of the device `k + 1` steps further hands to device `c`: the places there that `c`'s copies land. -/
def barPay (c : Dev nD) (k : Fin 3) : sProp 𝕄 :=
  bigSep Finset.univ fun y : Bool × Fin 3 × Fin 4 => held (peer c k) (land (y.1, y.2.1, y.2.2, k.rev))

/-- One round of every cell: the barrier's three words, a copy's one landing or end. -/
def Rd (A : Args F) : Rounds.Schedule (GSem nD τ sig) (Fin 3) 𝕄 where
  duties g r := if r = 0 ∧ g.1.2 = .tc then
    (match which g.2 with | none => ∅ | some none => Finset.univ | some (some _) => {0}) else ∅
  unitless _ := False
  amount g _ _ := match which g.2 with | some (some _) => N | _ => 1
  payload g _ d := match which g.2 with
    | some none => barPay g.1.1 d
    | some (some (false, x)) => sndPay A g.1.1 x
    | some (some (true, x)) => rcvPay A g.1.1 x
    | none => iprop(emp)
  amount_pos g _ _ _ := by
    show 0 < (match which g.2 with | some (some _) => N | _ => 1)
    split
    · exact N_pos
    · exact Nat.one_pos

instance Rd_storable (A : Args F) (g : GSem nD τ sig) (r : ℕ) (d : Fin 3) :
    BI.Storable (upEmb : UEmb _ 𝕄) ((Rd A).payload g r d) := by
  show BI.Storable upEmb (match which g.2 with
    | some none => barPay g.1.1 d
    | some (some (false, x)) => sndPay A g.1.1 x
    | some (some (true, x)) => rcvPay A g.1.1 x
    | none => iprop(emp))
  unfold barPay sndPay rcvPay
  split <;> infer_instance

section Sched

variable (A : Args F) (c : Dev nD) (x : XI)

theorem duties_bar : (Rd A).duties (cell c bar) 0 = Finset.univ := by
  dsimp only [Rd]; rw [if_pos ⟨rfl, rfl⟩, which_csem]
theorem duties_copy (b : Bool) : (Rd A).duties (cell c (some (b, x))) 0 = {0} := by
  dsimp only [Rd]; rw [if_pos ⟨rfl, rfl⟩, which_csem]
theorem duties_later (g : GSem nD τ sig) (r : ℕ) (hr : 1 ≤ r) : (Rd A).duties g r = ∅ := by
  dsimp only [Rd]; exact if_neg fun h => by omega
theorem amount_bar (d : Fin 3) : (Rd A).amount (cell c bar) 0 d = 1 := by
  dsimp only [Rd]; rw [which_csem]
theorem amount_copy (b : Bool) (d : Fin 3) : (Rd A).amount (cell c (some (b, x))) 0 d = N := by
  dsimp only [Rd]; rw [which_csem]
theorem expect_bar : (Rd A).expect (cell c bar) 0 = 3 := by
  unfold Schedule.expect Schedule.amountOf
  rw [duties_bar, Finset.sum_congr rfl fun d _ => amount_bar A c d]; rfl
theorem expect_copy (b : Bool) : (Rd A).expect (cell c (some (b, x))) 0 = N := by
  unfold Schedule.expect Schedule.amountOf
  rw [duties_copy, Finset.sum_singleton, amount_copy]
theorem payload_bar (d : Fin 3) : (Rd A).payload (cell c bar) 0 d = barPay c d := by
  dsimp only [Rd]; rw [which_csem]
theorem payload_snd (d : Fin 3) : (Rd A).payload (cell c (snd x)) 0 d = sndPay A c x := by
  dsimp only [Rd]; rw [which_csem]
theorem payload_rcv (d : Fin 3) : (Rd A).payload (cell c (rcv x)) 0 d = rcvPay A c x := by
  dsimp only [Rd]; rw [which_csem]
theorem rest_bar : (bigSep ((Rd A).duties (cell c bar) 0 \ ∅) fun d => (Rd A).payload (cell c bar) 0 d)
    = bigSep Finset.univ fun d => barPay c d := by
  rw [Finset.sdiff_empty, duties_bar]; exact bigSep_congr fun d _ => payload_bar A c d
theorem rest_snd : (bigSep ((Rd A).duties (cell c (snd x)) 0 \ ∅) fun d => (Rd A).payload (cell c (snd x)) 0 d) = sndPay A c x := by
  rw [Finset.sdiff_empty, duties_copy, bigSep_singleton, payload_snd]
theorem rest_rcv : (bigSep ((Rd A).duties (cell c (rcv x)) 0 \ ∅) fun d => (Rd A).payload (cell c (rcv x)) 0 d) = rcvPay A c x := by
  rw [Finset.sdiff_empty, duties_copy, bigSep_singleton, payload_rcv]

end Sched

/-! ## What each device owes, and the order of the waits -/

/-- The units device `c`'s copy `x` owes its landing. -/
def due (c : Dev nD) (x : XI) : CellTallies nD τ sig Unit := tallyAt (cell (peer c x.2.2.2) (rcv x.back)) () N
/-- The units the copies `l` owe. -/
def owed (c : Dev nD) (l : List XI) : CellTallies nD τ sig Unit := (l.map (due c)).sum
/-- The word device `c` owes the device `k + 1` steps further. -/
def dueBar (c : Dev nD) (k : Fin 3) : CellTallies nD τ sig Unit := tallyAt (cell (peer c k) bar) () 1

theorem owed_cons (c : Dev nD) (x : XI) (l : List XI) : owed c (x :: l) = owed c l + due c x := by
  unfold owed; rw [List.map_cons, List.sum_cons, add_comm]
theorem owed_nil (c : Dev nD) : owed c [] = 0 := rfl

/-- A layer's partial products in sending order. -/
abbrev parts (L : Fin 3) (o : List (Fin 3)) : List XI := (pairs o).map fun y => (false, L, y.1, y.2)
/-- A layer's activations in sending order. -/
abbrev acts (L : Fin 3) : List XI := (pairs far).map fun y => (true, L, y.1, y.2)

abbrev due5 : List XI := acts 2
abbrev due4 : List XI := parts 2 near ++ due5
abbrev due3 : List XI := acts 1 ++ due4
abbrev due2 : List XI := parts 1 near ++ due3
abbrev due1 : List XI := acts 0 ++ due2
/-- All copies in sending order. -/
abbrev due0 : List XI := parts 0 far ++ due1

/-- What device `c` owes at launch. -/
def O₀ (c : Dev nD) : CellTallies nD τ sig Unit := owed c due0 + dueBar c 2 + dueBar c 1 + dueBar c 0

def Ls (g : GSem nD τ sig) : Finset Unit := if g.1.2 = .tc then {()} else ∅
/-- The rank of a cell's wait. -/
def rank : CI → ℕ
  | none => 1
  | some (false, _) => 0
  | some (true, x) => 2 + (ph x).val
def lv (g : GSem nD τ sig) (_ : Unit) : ℕ := match which g.2 with | some i => rank i | none => 0

theorem lv_cell (c : Dev nD) (i : CI) (u : Unit) : lv (cell c i) u = rank i := by
  dsimp only [lv]; rw [which_csem]
theorem Ls_of_ne (g : GSem nD τ sig) (h : g.1.2 ≠ .tc) : Ls g = ∅ := if_neg h
theorem Ls_tc (c : Dev nD) (sm : SemLoc sig) : Ls ((c : Thread nD τ), sm) = {()} := if_pos rfl

theorem due_pos {c : Dev nD} {x : XI} {g : GSem nD τ sig} {u : Unit} (h : 0 < due c x g u) : g = cell (peer c x.2.2.2) (rcv x.back) := by
  unfold due at h
  rw [tallyAt_apply] at h
  by_contra hn
  rw [if_neg (fun h' => hn h'.1)] at h
  exact Nat.lt_irrefl 0 h
theorem dueBar_pos {c : Dev nD} {k : Fin 3} {g : GSem nD τ sig} {u : Unit} (h : 0 < dueBar c k g u) : g = cell (peer c k) bar := by
  unfold dueBar at h
  rw [tallyAt_apply] at h
  by_contra hn
  rw [if_neg (fun h' => hn h'.1)] at h
  exact Nat.lt_irrefl 0 h
theorem owed_pos {c : Dev nD} {g : GSem nD τ sig} {u : Unit} :
    ∀ {l : List XI}, 0 < owed c l g u → ∃ x ∈ l, g = cell (peer c x.2.2.2) (rcv x.back)
  | [], h => absurd h (Nat.lt_irrefl 0)
  | x :: l, h => by
    have h : 0 < owed c l g u + due c x g u := by rw [owed_cons] at h; exact h
    rcases Nat.eq_zero_or_pos (due c x g u) with h0 | h0
    · obtain ⟨y, hy, e⟩ := owed_pos (l := l) (by rw [h0, add_zero] at h; exact h)
      exact ⟨y, List.mem_cons_of_mem _ hy, e⟩
    · exact ⟨x, List.mem_cons_self, due_pos h0⟩
theorem O₀_pos {c : Dev nD} {g : GSem nD τ sig} {u : Unit} (h : 0 < O₀ c g u) :
    (∃ x ∈ due0, g = cell (peer c x.2.2.2) (rcv x.back)) ∨ ∃ k, g = cell (peer c k) bar := by
  have h : 0 < owed c due0 g u + dueBar c 2 g u + dueBar c 1 g u + dueBar c 0 g u := h
  rcases Nat.eq_zero_or_pos (dueBar c 0 g u) with h0 | h0
  · rcases Nat.eq_zero_or_pos (dueBar c 1 g u) with h1 | h1
    · rcases Nat.eq_zero_or_pos (dueBar c 2 g u) with h2 | h2
      · rw [h0, h1, h2, add_zero, add_zero, add_zero] at h; exact .inl (owed_pos h)
      · exact .inr ⟨2, dueBar_pos h2⟩
    · exact .inr ⟨1, dueBar_pos h1⟩
  · exact .inr ⟨0, dueBar_pos h0⟩

/-- A wait of lower rank than every copy still owed is due. -/
theorem mayWait (c : Dev nD) (i : CI) (l : List XI) (hl : ∀ y ∈ l, rank i < 2 + (ph y).val) :
    (levAts Ls lv : sProp 𝕄) ⊢ MayWait (c : Thread nD τ) (csem i) () (owed c l) :=
  MayOwe.of_cut (L := Ls) (lev := lv) (rank i)
    (fun p hp => by rw [Finset.mem_singleton.mp hp, Ls_tc]; exact Finset.mem_singleton_self _)
    (fun g u hg => by obtain ⟨x, -, rfl⟩ := owed_pos hg; exact Finset.mem_singleton_self _)
    (fun p hp => by rw [Finset.mem_singleton.mp hp]; exact le_of_eq (lv_cell c i ()))
    (fun g u hg => by obtain ⟨x, hx, rfl⟩ := owed_pos hg; rw [lv_cell]; exact hl x hx)

/-- A semaphore outside the exchange may be waited for at the launch's debt and at none. -/
theorem mayWait_stage (c : Dev nD) (q : DmaSem sig) (hq : which (.dma q) = none) (O : CellTallies nD τ sig Unit)
    (hO : O = O₀ c ∨ O = 0) : (levAts Ls lv : sProp 𝕄) ⊢ MayWait (c : Thread nD τ) (.dma q) () O := by
  rcases hO with rfl | rfl
  · refine MayOwe.of_cut (L := Ls) (lev := lv) 0 (fun p hp => by rw [Finset.mem_singleton.mp hp, Ls_tc]; exact Finset.mem_singleton_self _)
      (fun g u hg => by rcases O₀_pos hg with ⟨x, -, rfl⟩ | ⟨k, rfl⟩ <;> exact Finset.mem_singleton_self _)
      (fun p hp => by rw [Finset.mem_singleton.mp hp]; dsimp only [lv]; rw [hq])
      (fun g u hg => by
        rcases O₀_pos hg with ⟨x, -, rfl⟩ | ⟨k, rfl⟩
        · rw [lv_cell]; exact Nat.lt_of_lt_of_le Nat.two_pos (Nat.le_add_right _ _)
        · rw [lv_cell]; exact Nat.one_pos)
  · rw [MayWait_zero]; iintro -; iempintro

end Cert.Mlp

end
-- ==== Proof.Steps.lean ====
/- The steps of the body, each with what it takes and what it leaves. -/
module

public import proofs.«01_k».proof.Proof.Sched

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What every step may use -/

/-- All cells' invariants, that each is at its first round, and the order of the waits. -/
def recs (A : Args F) (K : Dev nD × CI → ℕ) : sProp 𝕄 :=
  iprop((bigSep Finset.univ fun ci : Dev nD × CI => cellInv ER (Rd A) (K ci) (cell ci.1 ci.2))
    ∗ (bigSep Finset.univ fun ci : Dev nD × CI => reached ER (cell ci.1 ci.2) 0) ∗ levAts Ls lv)

instance recs_persistent (A : Args F) (K : Dev nD × CI → ℕ) : BI.Persistent (recs A K) := by unfold recs; infer_instance

/-- The copies `l` are still owed. -/
def Debt (c : Dev nD) (l : List XI) : sProp 𝕄 := iprop(∃ W, owes (c : Thread nD τ) (owed c l) W)

section Recs

variable (A : Args F) (K : Dev nD × CI → ℕ) (c : Dev nD) (i : CI)

theorem recs_inv : recs A K ⊢ cellInv ER (Rd A) (K (c, i)) (cell c i) := by
  haveI := Classical.decEq (Dev nD × CI)
  unfold recs
  iintro ⟨H, -, -⟩
  have h : (bigSep Finset.univ fun ci : Dev nD × CI => (cellInv ER (Rd A) (K ci) (cell ci.1 ci.2) : sProp 𝕄)) ⊢ cellInv ER (Rd A) (K (c, i)) (cell c i) :=
    bigSep_elim (Finset.mem_univ (c, i))
  iapply h; iexact H
theorem recs_reached : recs A K ⊢ reached ER (cell c i) 0 := by
  haveI := Classical.decEq (Dev nD × CI)
  unfold recs
  iintro ⟨-, H, -⟩
  have h : (bigSep Finset.univ fun ci : Dev nD × CI => (reached ER (cell ci.1 ci.2) 0 : sProp 𝕄)) ⊢ reached ER (cell c i) 0 :=
    bigSep_elim (Finset.mem_univ (c, i))
  iapply h; iexact H
theorem recs_lev : recs A K ⊢ levAts Ls lv := by
  unfold recs
  iintro ⟨-, -, H⟩
  iexact H

end Recs

/-! ## One copy -/

section Copy

variable (A : Args F) (K : Dev nD × CI → ℕ) (c : Dev nD) (x : XI) (l : List XI)

/-- What device `c` needs to make copy `x`: the two duties it pays, and the place it lands. -/
def toSend : sProp 𝕄 :=
  iprop(dutyTok ER (cell c (snd x)) 0 0 ∗ dutyTok ER (cell (peer c x.2.2.2) (rcv x.back)) 0 0 ∗ held (peer c x.2.2.2) (land x.back))
/-- What it then has: the right to wait for the copy's end. -/
def gone : sProp 𝕄 := cred (tallyAt (cell c (snd x)) () N)
/-- What it needs to await the landing of the copy that reaches it as `x`. -/
def toTake : sProp 𝕄 := iprop(atPos ER (cell c (rcv x)) 0 ∅ 0 ∗ cred (tallyAt (cell c (rcv x)) () N))
/-- What it then has. -/
def taken : sProp 𝕄 := iprop(atPos ER (cell c (rcv x)) 1 ∅ 0 ∗ held c (land x))

/-- A copy made: its source given until it ends. -/
theorem wp_copyTo {hs : (src x).view.WordExact} {hd : (land x.back).view.WordExact} (r : Pr F) (Q : PUnit → sProp 𝕄) :
    iprop(recs A K ∗ owns (c : Thread nD τ) (src x) (share x) (msg A c x) ∗ toSend c x ∗ Debt c (x :: l))
      ⊢ iprop(((gone c x ∗ Debt c l) -∗ wps c r Q) -∗ wps c (copyTo c (src x) (land x.back) hs hd (ph x) x.2.2.1 x.2.2.2 r) Q) := by
  unfold copyTo toSend Debt gone
  simp only [Prog.lift, Prog.bind_op, Prog.bind_ret]
  rw [held_eq, owed_cons]
  iintro ⟨#HR, Hsrc, ⟨HtS, HtR, ⟨%fd, Hdst⟩⟩, ⟨%W, HO⟩⟩ Hk
  unfold owns
  icases Hsrc with ⟨%fs, %hfs, Hsrc⟩
  iapply (Rounds.wp_send_pointsTo 𝒱₀ ER (Rd A) (c : Thread nD τ) none (κ₁ := K (c, snd x)) (κ₂ := K (peer c x.2.2.2, rcv x.back))
    (c' := (peer c x.2.2.2 : Thread nD τ)) (src := src x) (dst := land x.back)
    (sS := csem (snd x)) (sem := csem (rcv x.back)) (q := share x) (fs := fs) (fd := fd)
    (r₁ := 0) (r₂ := 0) (d₁ := 0) (d₂ := 0)
    (by rw [duties_copy]; exact Finset.mem_singleton_self _) (by rw [duties_copy]; exact Finset.mem_singleton_self _)
    () () N (credit_land x.back) (amount_copy A c x false 0) (amount_copy A (peer c x.2.2.2) x.back true 0) (owed c l) rfl (W := W)
    (by
      rw [payload_snd]; unfold sndPay owns
      iintro H; iexists fs
      isplitr; · ipureintro; exact hfs
      iexact H)
    (by
      rw [payload_rcv]; unfold rcvPay owns
      have hw : (land x.back).view.read (Elt F) ((land x.back).view.write (Elt F) fd ((src x).view.read (Elt F) fs) Finset.univ)
          = msg A (peer (peer c x.2.2.2) x.2.2.2.rev) x.back.back := by
        rw [View.read_write_univ, hfs, peer_back, XI.back_back]
      iintro H; iexists ((land x.back).view.write (Elt F) fd ((src x).view.read (Elt F) fs) Finset.univ)
      isplitr; · ipureintro; exact hw
      iexact H)) $$ [Hsrc Hdst HO HtS HtR]
  · isplitr; · iapply (recs_inv A K c (snd x)); iexact HR
    isplitr; · iapply (recs_inv A K (peer c x.2.2.2) (rcv x.back)); iexact HR
    isplitl [Hsrc]; · iexact Hsrc
    isplitl [Hdst]; · iexact Hdst
    isplitl [HO]; · iexact HO
    isplitl [HtS]; · iexact HtS
    isplitr; · iapply (recs_reached A K c (snd x)); iexact HR
    isplitl [HtR]; · iexact HtR
    iapply (recs_reached A K (peer c x.2.2.2) (rcv x.back)); iexact HR
  iintro ⟨HcS, HO⟩
  iapply Hk
  isplitl [HcS]; · iexact HcS
  iexists W
  iexact HO

/-- A landing awaited and read. -/
theorem wp_take (hl : ∀ y ∈ l, (ph x).val < (ph y).val) {hM : (into x.1).IsWhole} (r : Vec F S1x1x1x32x512 .bf16 → Pr F)
    (Q : PUnit → sProp 𝕄) :
    iprop(recs A K ∗ toTake c x ∗ Debt c l)
      ⊢ iprop(((taken c x ∗ Debt c l) -∗ wps c (r (asPiece (msg A (peer c x.2.2.2) x.back))) Q)
        -∗ wps c (take (into x.1) hM (ph x) x.2.1 x.2.2.1 x.2.2.2 r) Q) := by
  unfold take toTake Debt taken
  simp only [Prog.lift, Prog.bind_op, Prog.bind_ret]
  iintro ⟨#HR, ⟨Hat, Hcr⟩, ⟨%W, HO⟩⟩ Hk
  iapply (Rounds.wp_wait_rest_token 𝒱₀ ER (Rd A) (c : Thread nD τ) none (κ := K (c, rcv x)) (sm := csem (rcv x))
    (k' := (land x).view.dmaCredit)
    (wpE_waitDma2_eq 𝒱₀ (c : Thread nD τ) none Set.univ) (Set.mem_univ _) () (O := owed c l) (W := W) (R := 0) (m := 0) (T := ∅)
    (by rw [Nat.zero_add, expect_copy, credit_land])) $$ [Hcr HO Hat]
  · isplitr; · iapply (recs_inv A K c (rcv x)); iexact HR
    isplitl [Hcr]; · rw [credit_land]; iexact Hcr
    isplitl [HO]; · iexact HO
    isplitr
    · iapply (mayWait c (rcv x) l (fun y hy => Nat.add_lt_add_left (hl y hy) 2))
      iapply (recs_lev A K); iexact HR
    iexact Hat
  iintro ⟨HO, Hat, -, Hpay⟩
  ihave Hp := (Entails.of_eq (rest_rcv A c x)) $$ Hpay
  unfold rcvPay
  iapply (wp_load_piece c (into x.1) (r5 x.2.1 x.2.2.1 x.2.2.2) (fun _ => rfl) Gen.squeezes_S1x1x1x32x512_S32x512 Q fullShare
    (msg A (peer c x.2.2.2) x.back) Gen.shapeCasts_S1x1x1x32x512_S32x512 Gen.shapeCasts_S32x512_S1x1x1x32x512) $$ Hp
  iintro Hp
  iapply Hk
  isplitl [Hat Hp]
  · isplitl [Hat]; · iexact Hat
    unfold held; iexists _; iexact Hp
  iexists _; iexact HO

end Copy

end Cert.Mlp

end
-- ==== Proof.Moves.lean ====
/- The larger steps: a partial product sent, an activation formed and shown, a received one carried on, the ends awaited. -/
module

public import proofs.«01_k».proof.Proof.Steps
public import Idealize.ShloMosaic.Lib.Pipeline.BigSepL

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_three (Φ : Fin 3 → sProp 𝕄) : bigSep Finset.univ Φ = iprop(Φ 0 ∗ Φ 1 ∗ Φ 2) :=
  bigSep_univ_eq_bigSepL [0, 1, 2] (by decide) (by decide) Φ

/-- A step done for every member of a list, what it takes and leaves given one by one. -/
theorem wp_foldr {I : Type} (c : Dev nD) (step : I → Pr F → Pr F) (Q : PUnit → sProp 𝕄) (R : sProp 𝕄) [BI.Persistent R]
    (Inv : List I → sProp 𝕄) (In Out : I → sProp 𝕄)
    (h : ∀ x l r, iprop(R ∗ Inv (x :: l) ∗ In x) ⊢ iprop(((Inv l ∗ Out x) -∗ wps c r Q) -∗ wps c (step x r) Q)) (r : Pr F) :
    ∀ l : List I, iprop(R ∗ Inv l ∗ bigSepL l In) ⊢ iprop(((Inv [] ∗ bigSepL l Out) -∗ wps c r Q) -∗ wps c (l.foldr step r) Q)
  | [] => by
    iintro ⟨-, HI, -⟩ Hk
    iapply Hk
    isplitl [HI]; · iexact HI
    iempintro
  | x :: l => by
    rw [bigSepL_cons', bigSepL_cons']
    iintro ⟨#HR, HI, Hx, Hl⟩ Hk
    iapply (h x l (l.foldr step r)) $$ [HI Hx]
    · isplitr; · iexact HR
      isplitl [HI] <;> iassumption
    iintro ⟨HI, Hx⟩
    iapply (wp_foldr c step Q R Inv In Out h r l) $$ [HI Hl]
    · isplitr; · iexact HR
      isplitl [HI] <;> iassumption
    iintro ⟨HI, Hl⟩
    iapply Hk
    isplitl [HI]; · iexact HI
    isplitl [Hx] <;> iassumption

/-! ## Reading the arguments -/

theorem zeros : (![0, 0] : Fin 2 → Nat) = fun _ => 0 := funext fun a => by fin_cases a <;> rfl

/-- A buffer holding `w`. -/
def holds (c : Dev nD) {s : Shape} (M : Memref sig .tc .vmem s .bf16) (w : Vec F s .bf16) : sProp 𝕄 := owns (c : Thread nD τ) M fullShare w

/-- A load of a whole buffer reads what it holds. -/
theorem wp_load_full (c : Dev nD) {s : Shape} (M : Memref sig .tc .vmem s .bf16) (off : Fin s.rank → Nat) (h0 : off = fun _ => 0)
    (inb : ∀ a, off a + s.size a ≤ s.size a) (w : Vec F s .bf16) {hl} (r : Vec F s .bf16 → Pr F) (Q : PUnit → sProp 𝕄) :
    holds c M w ⊢ iprop((holds c M w -∗ wps c (r w) Q)
      -∗ wps c (.op (.load M (Rect.unit (s := s) off s.size inb).toLoadRect hl) r) Q) := by
  subst h0
  unfold holds owns
  iintro ⟨%f, %hf, H⟩ Hk
  have hv : (M.access (Rect.unit (s := s) (fun _ => 0) s.size inb)).read (Elt F) f = w := by
    rw [← hf]
    refine funext fun x => congrArg (M.view.read (Elt F) f) (funext fun a => Fin.ext ?_)
    show 0 + 1 * (x a).val = (x a).val
    omega
  iapply (wp_load_rect 𝒱₀ (c : Thread nD τ) none Set.univ (m := M) (r := Rect.unit (s := s) (fun _ => 0) s.size inb) (f := f)
    (View.set_slice_subset _ _)) $$ H
  iintro H
  rw [hv]
  iapply Hk
  iexists f
  isplitr; · ipureintro; exact hf
  iexact H

theorem wp_loadIn (c : Dev nD) (M : Memref sig .tc .vmem S256x512 .bf16)
    (w : Vec F S256x512 .bf16) (r : Vec F S256x512 .bf16 → Pr F) (Q : PUnit → sProp 𝕄) :
    holds c M w ⊢ iprop((holds c M w -∗ wps c (r w) Q) -∗ wps c (loadIn M r) Q) := by
  unfold loadIn
  simp only [Prog.lift, Prog.bind_op, Prog.bind_ret]
  exact wp_load_full c M _ zeros _ w r Q

theorem wp_loadOut (c : Dev nD) (M : Memref sig .tc .vmem S512x256 .bf16)
    (w : Vec F S512x256 .bf16) (r : Vec F S512x256 .bf16 → Pr F) (Q : PUnit → sProp 𝕄) :
    holds c M w ⊢ iprop((holds c M w -∗ wps c (r w) Q) -∗ wps c (loadOut M r) Q) := by
  unfold loadOut
  simp only [Prog.lift, Prog.bind_op, Prog.bind_ret]
  exact wp_load_full c M _ zeros _ w r Q

section Args

variable (A : Args F) (c : Dev nD) (s : Fin 4) (k : Fin 3)

/-- Device `c`'s columns of the input, in its staging buffer. -/
def xAt : sProp 𝕄 := iprop(((c : Thread nD τ).loc cc0_stg0_0) ↦{fullShare} (A.x c : Buf (Elt F) ((c : Thread nD τ).loc cc0_stg0_0)))

theorem wp_rowsAt {hl} (r : Vec F S32x256 .bf16 → Pr F) (Q : PUnit → sProp 𝕄) :
    xAt A c ⊢ iprop((xAt A c -∗ wps c (r (rowsOf A c k s)) Q)
      -∗ wps c (.op (.load (Memref.whole cc0_stg0_0) (rowsAt c k s).toLoadRect hl) r) Q) := by
  unfold xAt
  iintro H Hk
  iapply (wp_load 𝒱₀ (c : Thread nD τ) none Set.univ (m := (Memref.whole cc0_stg0_0 : Memref sig .tc .vmem S512x256 .bf16)) (Finset.subset_univ _)) $$ H
  iintro H
  iapply Hk; iexact H

theorem wp_rowsOwn {hl} (r : Vec F S32x256 .bf16 → Pr F) (Q : PUnit → sProp 𝕄) :
    xAt A c ⊢ iprop((xAt A c -∗ wps c (r (rowsMine A c s)) Q)
      -∗ wps c (.op (.load (Memref.whole cc0_stg0_0) (rowsOwn c s).toLoadRect hl) r) Q) := by
  unfold xAt
  iintro H Hk
  iapply (wp_load 𝒱₀ (c : Thread nD τ) none Set.univ (m := (Memref.whole cc0_stg0_0 : Memref sig .tc .vmem S512x256 .bf16)) (Finset.subset_univ _)) $$ H
  iintro H
  iapply Hk; iexact H

end Args

/-! ## A partial product -/

section Part

variable (A : Args F) (K : Dev nD × CI → ℕ) (c : Dev nD) (L : Fin 3) (s : Fin 4) (k : Fin 3) (l : List XI)

/-- What device `c` needs to send a partial product: the place it writes it, and to make the copy. -/
def partIn (x : XI) : sProp 𝕄 := iprop(held c (src x) ∗ toSend c x)

theorem wp_sendPart (v : FVec F S32x512 .f32) (hv : sent v = msg A c (false, L, s, k)) (r : Pr F) (Q : PUnit → sProp 𝕄) :
    iprop(recs A K ∗ partIn c (false, L, s, k) ∗ Debt c ((false, L, s, k) :: l))
      ⊢ iprop(((gone c (false, L, s, k) ∗ Debt c l) -∗ wps c r Q) -∗ wps c (sendPart c L s k v r) Q) := by
  have hsrc : src (false, L, s, k) = piece5 sendB L s k := rfl
  unfold sendPart partIn held
  rw [hsrc]
  simp only [Prog.lift, Prog.bind_op, Prog.bind_ret]
  iintro ⟨#HR, ⟨⟨%X, Hs⟩, Hto⟩, HD⟩ Hk
  iapply (wp_load_piece c sendB (r5 L s k) (fun _ => rfl) Gen.squeezes_S1x1x1x32x512_S32x512 Q fullShare
    X Gen.shapeCasts_S1x1x1x32x512_S32x512 Gen.shapeCasts_S32x512_S1x1x1x32x512) $$ Hs
  iintro Hs
  iapply (wp_store_piece c sendB (r5 L s k) (fun _ => rfl) Gen.squeezes_S1x1x1x32x512_S32x512 Q (toPiece v)
    Gen.shapeCasts_S1x1x1x32x512_S32x512) $$ [Hs]
  · iexists X; iexact Hs
  iintro Hs
  iapply (wp_copyTo A K c (false, L, s, k) l r Q) $$ [Hs Hto HD]
  · isplitr; · iexact HR
    isplitl [Hs]
    · rw [← hv, ← ofPiece_toPiece]; iexact Hs
    isplitl [Hto] <;> iassumption
  iexact Hk

/-- Layer 0's partial product for the device `k + 1` steps further. -/
theorem wp_firstPart (r : Pr F) (Q : PUnit → sProp 𝕄) :
    iprop(recs A K ∗ xAt A c ∗ partIn c (false, 0, s, k) ∗ Debt c ((false, 0, s, k) :: l))
      ⊢ iprop(((xAt A c ∗ gone c (false, 0, s, k) ∗ Debt c l) -∗ wps c r Q) -∗ wps c (firstPart c (A.wi 0 c) s k r) Q) := by
  unfold firstPart
  simp only [Prog.lift, Prog.bind_op, Prog.bind_ret]
  iintro ⟨#HR, Hx, Hp, HD⟩ Hk
  iapply (wp_rowsAt A c s k _ Q) $$ Hx
  iintro Hx
  iapply (wp_sendPart A K c 0 s k l (inDot (A.wi 0 c) (rowsOf A c k s)) rfl r Q) $$ [Hp HD]
  · isplitr; · iexact HR
    isplitl [Hp] <;> iassumption
  iintro ⟨Hg, HD⟩
  iapply Hk
  isplitl [Hx]; · iexact Hx
  isplitl [Hg] <;> iassumption

/-- A received activation carried on to the next layer's partial product. -/
theorem wp_carry (L' : Fin 3) (hn : lay A L' = nextLay A L L' (lay A L)) (hl : ∀ y ∈ l, (phG L).val < (ph y).val)
    (hL : L < L') (r : Pr F) (Q : PUnit → sProp 𝕄) :
    iprop(recs A K ∗ (toTake c (true, L, s, k) ∗ partIn c (false, L', s, k)) ∗ Debt c ((false, L', s, k) :: l))
      ⊢ iprop((((taken c (true, L, s, k) ∗ gone c (false, L', s, k)) ∗ Debt c l) -∗ wps c r Q)
        -∗ wps c (carry c L L' (A.wo L c) (A.wi L' c) s k r) Q) := by
  unfold carry
  iintro ⟨#HR, ⟨Ht, Hp⟩, HD⟩ Hk
  iapply (wp_take A K c (true, L, s, k) ((false, L', s, k) :: l) (by
      intro y hy
      rcases List.mem_cons.mp hy with rfl | hy
      · show 2 * L.val + 1 < 2 * L'.val
        have : L.val < L'.val := hL
        omega
      · exact hl y hy) _ Q) $$ [Ht HD]
  · isplitr; · iexact HR
    isplitl [Ht] <;> iassumption
  iintro ⟨Ht, HD⟩
  iapply (wp_sendPart A K c L' s k l (nextDot (A.wo L c) (A.wi L' c) (ofPiece (asPiece (msg A (peer c k) (true, L, s, k.rev)))))
    (by rw [ofPiece_asPiece]; unfold msg; rw [hn]; rfl) r Q) $$ [Hp HD]
  · isplitr; · iexact HR
    isplitl [Hp] <;> iassumption
  iintro ⟨Hg, HD⟩
  iapply Hk
  isplitl [Ht Hg]
  · isplitl [Ht] <;> iassumption
  iexact HD

end Part

/-! ## An activation -/

section Act

variable (A : Args F) (K : Dev nD × CI → ℕ) (c : Dev nD) (L : Fin 3) (s : Fin 4) (l : List XI)

/-- What device `c` needs to form and show an activation: its place, the three landings and the three copies. -/
def actIn : sProp 𝕄 :=
  iprop(held c (piece4 ownB L s) ∗ (bigSep Finset.univ fun k => toTake c (false, L, s, k))
    ∗ bigSep Finset.univ fun k => toSend c (true, L, s, k))
/-- What it then has: a share of the activation, the landings taken and the copies made. -/
def actOut : sProp 𝕄 :=
  iprop(owns (c : Thread nD τ) (piece4 ownB L s) fullShare.left (hidden (lay A L) c s)
    ∗ (bigSep Finset.univ fun k => taken c (false, L, s, k)) ∗ bigSep Finset.univ fun k => gone c (true, L, s, k))

/-- A share of an activation is its two halves. -/
theorem own_halves (q : PosShare TreeShare) (X : FVec F S32x512 .bf16) :
    (owns (c : Thread nD τ) (piece4 ownB L s) q X : sProp 𝕄)
      = iprop(owns (c : Thread nD τ) (piece4 ownB L s) q.left X ∗ owns (c : Thread nD τ) (piece4 ownB L s) q.right X) :=
  have h := owns_halves (Val := Elt F) (Ix := Unit) (Name := ℕ) (U := UU) (Lvl := ℕ) (c : Thread nD τ) (piece4 ownB L s) q X
  BI.equiv_iff.mp ⟨h.1, h.2⟩

/-- The share of an activation that stays, and the three lent, make the whole. -/
theorem own_shares (X : FVec F S32x512 .bf16) :
    (owns (c : Thread nD τ) (piece4 ownB L s) fullShare X : sProp 𝕄)
      = iprop(owns (c : Thread nD τ) (piece4 ownB L s) fullShare.left X ∗ owns (c : Thread nD τ) (piece4 ownB L s) (lent 0) X
        ∗ owns (c : Thread nD τ) (piece4 ownB L s) (lent 1) X ∗ owns (c : Thread nD τ) (piece4 ownB L s) (lent 2) X) := by
  rw [own_halves c L s fullShare X, own_halves c L s fullShare.right X, own_halves c L s fullShare.right.right X]
  rfl

/-- An activation's copy to the device `k + 1` steps further. -/
theorem wp_showAct (k : Fin 3) (r : Pr F) (Q : PUnit → sProp 𝕄) :
    iprop(recs A K ∗ owns (c : Thread nD τ) (piece4 ownB L s) (lent k) (hidden (lay A L) c s) ∗ toSend c (true, L, s, k)
        ∗ Debt c ((true, L, s, k) :: l))
      ⊢ iprop(((gone c (true, L, s, k) ∗ Debt c l) -∗ wps c r Q) -∗ wps c (showAct c L s k r) Q) :=
  wp_copyTo A K c (true, L, s, k) l r Q

theorem wp_collect (hl : ∀ y ∈ l, (phR L).val < (ph y).val) (r : Vec F S1x1x32x512 .bf16 → Pr F) (Q : PUnit → sProp 𝕄) :
    iprop(recs A K ∗ actIn c L s ∗ Debt c ((true, L, s, 1) :: (true, L, s, 0) :: (true, L, s, 2) :: l))
      ⊢ iprop(((actOut A c L s ∗ Debt c l) -∗ wps c (r (asOwn (hidden (lay A L) c s))) Q)
        -∗ wps c (collect c L s ((lay A L).own c s) r) Q) := by
  have hl' : ∀ y ∈ (true, L, s, 1) :: (true, L, s, 0) :: (true, L, s, 2) :: l, (phR L).val < (ph y).val := by
    intro y hy
    rcases List.mem_cons.mp hy with rfl | hy
    · exact Nat.lt_succ_self _
    rcases List.mem_cons.mp hy with rfl | hy
    · exact Nat.lt_succ_self _
    rcases List.mem_cons.mp hy with rfl | hy
    · exact Nat.lt_succ_self _
    exact hl y hy
  unfold collect actIn actOut
  rw [bigSep_three, bigSep_three, bigSep_three, bigSep_three]
  iintro ⟨#HR, ⟨Hown, ⟨Ht0, Ht1, Ht2⟩, Hs0, Hs1, Hs2⟩, HD⟩ Hk
  iapply (wp_take A K c (false, L, s, 0) _ hl' _ Q) $$ [Ht0 HD]
  · isplitr; · iexact HR
    isplitl [Ht0] <;> iassumption
  iintro ⟨Ht0, HD⟩
  iapply (wp_take A K c (false, L, s, 1) _ hl' _ Q) $$ [Ht1 HD]
  · isplitr; · iexact HR
    isplitl [Ht1] <;> iassumption
  iintro ⟨Ht1, HD⟩
  iapply (wp_take A K c (false, L, s, 2) _ hl' _ Q) $$ [Ht2 HD]
  · isplitr; · iexact HR
    isplitl [Ht2] <;> iassumption
  iintro ⟨Ht2, HD⟩
  simp only [Prog.lift, Prog.bind_op, Prog.bind_ret]
  unfold held
  icases Hown with ⟨%X, Ho⟩
  iapply (wp_load_piece c ownB (r4 L s) (fun _ => rfl) Gen.squeezes_S1x1x32x512_S32x512 Q fullShare
    X Gen.shapeCasts_S1x1x32x512_S32x512 Gen.shapeCasts_S32x512_S1x1x32x512) $$ Ho
  iintro Ho
  iapply (wp_store_piece c ownB (r4 L s) (fun _ => rfl) Gen.squeezes_S1x1x32x512_S32x512 Q _
    Gen.shapeCasts_S1x1x32x512_S32x512) $$ [Ho]
  · iexists X; iexact Ho
  iintro Ho
  ihave Ho := (Entails.of_eq (own_shares c L s (hidden (lay A L) c s))) $$ [Ho]
  · iexact Ho
  icases Ho with ⟨Ho, H0, H1, H2⟩
  iapply (wp_showAct A K c L s _ 1 _ Q) $$ [H1 Hs1 HD]
  · isplitr; · iexact HR
    isplitl [H1]; · iexact H1
    isplitl [Hs1] <;> iassumption
  iintro ⟨Hs1, HD⟩
  iapply (wp_showAct A K c L s _ 0 _ Q) $$ [H0 Hs0 HD]
  · isplitr; · iexact HR
    isplitl [H0]; · iexact H0
    isplitl [Hs0] <;> iassumption
  iintro ⟨Hs0, HD⟩
  iapply (wp_showAct A K c L s _ 2 _ Q) $$ [H2 Hs2 HD]
  · isplitr; · iexact HR
    isplitl [H2]; · iexact H2
    isplitl [Hs2] <;> iassumption
  iintro ⟨Hs2, HD⟩
  simp only [List.foldr]
  iapply (wp_load_piece c ownB (r4 L s) (fun _ => rfl) Gen.squeezes_S1x1x32x512_S32x512 Q fullShare.left
    (hidden (lay A L) c s) Gen.shapeCasts_S1x1x32x512_S32x512 Gen.shapeCasts_S32x512_S1x1x32x512) $$ Ho
  iintro Ho
  iapply Hk
  isplitr [HD]
  · isplitl [Ho]; · iexact Ho
    isplitl [Ht0 Ht1 Ht2]
    · isplitl [Ht0]; · iexact Ht0
      isplitl [Ht1] <;> iassumption
    isplitl [Hs0]; · iexact Hs0
    isplitl [Hs1] <;> iassumption
  iexact HD

end Act

/-! ## The ends -/

section Ends

variable (A : Args F) (K : Dev nD × CI → ℕ) (c : Dev nD)

/-- What device `c` needs to await the end of its copy `x`. -/
def toEnd (x : XI) : sProp 𝕄 := iprop(atPos ER (cell c (snd x)) 0 ∅ 0 ∗ gone c x)
/-- What it then has. -/
def ended (x : XI) : sProp 𝕄 := iprop(atPos ER (cell c (snd x)) 1 ∅ 0 ∗ sndPay A c x)

theorem wp_end (x : XI) {sp sp' : CoreSpace} {s s' : Shape} {e e' : EltTy} (m : Memref sig .tc sp s e) (m' : Memref sig .tc sp' s' e')
    (hN : m'.view.dmaCredit = N) {h : m.view.WordExact} {h' : m'.view.WordExact} (r : Pr F) (Q : PUnit → sProp 𝕄) :
    iprop(recs A K ∗ Debt c [] ∗ toEnd c x)
      ⊢ iprop(((Debt c [] ∗ ended A c x) -∗ wps c r Q)
        -∗ wps c (.op (.waitDma2 (sendSem (ph x) x.2.2.1 x.2.2.2) m m' h h') fun _ => r) Q) := by
  unfold toEnd gone Debt ended
  iintro ⟨#HR, ⟨%W, HO⟩, ⟨Hat, Hcr⟩⟩ Hk
  iapply (Rounds.wp_wait_rest_token 𝒱₀ ER (Rd A) (c : Thread nD τ) none (κ := K (c, snd x)) (sm := csem (snd x))
    (k' := m'.view.dmaCredit)
    (wpE_waitDma2_eq 𝒱₀ (c : Thread nD τ) none Set.univ) (Set.mem_univ _) () (O := owed c []) (W := W) (R := 0) (m := 0) (T := ∅)
    (by rw [Nat.zero_add, expect_copy, hN])) $$ [Hcr HO Hat]
  · isplitr; · iapply (recs_inv A K c (snd x)); iexact HR
    isplitl [Hcr]; · rw [hN]; iexact Hcr
    isplitl [HO]; · iexact HO
    isplitr
    · rw [owed_nil, MayWait_zero]; iempintro
    iexact Hat
  iintro ⟨HO, Hat, -, Hpay⟩
  ihave Hp := (Entails.of_eq (rest_snd A c x)) $$ Hpay
  iapply Hk
  isplitl [HO]
  · iexists _; iexact HO
  isplitl [Hat] <;> iassumption

theorem wp_endPart (L : Fin 3) (s : Fin 4) (k : Fin 3) (r : Pr F) (Q : PUnit → sProp 𝕄) :
    iprop(recs A K ∗ Debt c [] ∗ toEnd c (false, L, s, k))
      ⊢ iprop(((Debt c [] ∗ ended A c (false, L, s, k)) -∗ wps c r Q) -∗ wps c (endPart L s k r) Q) := by
  unfold endPart
  simp only [Prog.lift, Prog.bind_op, Prog.bind_ret]
  exact wp_end A K c (false, L, s, k) _ _ (credit_src (false, L, s, k)) r Q

theorem wp_endAct (L : Fin 3) (s : Fin 4) (k : Fin 3) (r : Pr F) (Q : PUnit → sProp 𝕄) :
    iprop(recs A K ∗ Debt c [] ∗ toEnd c (true, L, s, k))
      ⊢ iprop(((Debt c [] ∗ ended A c (true, L, s, k)) -∗ wps c r Q) -∗ wps c (endAct L s k r) Q) := by
  unfold endAct
  simp only [Prog.lift, Prog.bind_op, Prog.bind_ret]
  exact wp_end A K c (true, L, s, k) _ _ (credit_src (true, L, s, k)) r Q

end Ends

end Cert.Mlp

end
-- ==== Proof.Output.lean ====
/- The output's blocks written one after the other. -/
module

public import proofs.«01_k».proof.Proof.Moves

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem rowsAt_off (d : Dev nD) (k : Fin 3) (s : Fin 4) :
    k0_off1 d (BitVec.ofNat 32 (1 + k.val)) (BitVec.ofNat 32 (32 * s.val)) = ![128 * (peer d k).val + 32 * s.val, 0] := by
  revert d k s; decide +kernel

/-- Which block of which device's rows an element of the output is in. -/
def blockOf (i : S512x256.Idx) : Dev nD × Fin 4 :=
  (⟨(i 0).val / 128, by have : (i 0).val < 512 := (i 0).isLt; show _ < 4; omega⟩, ⟨(i 0).val % 128 / 32, by omega⟩)

/-- The output is right but for the blocks `l`. -/
def outBut (A : Args F) (c : Dev nD) (l : List (Dev nD × Fin 4)) : sProp 𝕄 :=
  iprop(∃ f : Buf (Elt F) ((c : Thread nD τ).loc cc0_stg7_0), ⌜∀ i : S512x256.Idx, blockOf i ∉ l → f i = outArr A c i⌝
    ∗ (((c : Thread nD τ).loc cc0_stg7_0) ↦{fullShare} f))

section Put

variable (A : Args F) (c : Dev nD) (t : Dev nD) (s : Fin 4) (l : List (Dev nD × Fin 4))

/-- Block `s` of device `t`'s rows. -/
abbrev blockRect (off : Fin 2 → Nat) (hoff : ∀ a, off a + S32x256.size a ≤ S512x256.size a) : Rect S512x256 :=
  Rect.unit (s := S512x256) off S32x256.size hoff

abbrev outM : Memref sig .tc .vmem S512x256 .f32 := Memref.whole cc0_stg7_0

theorem put_right (off : Fin 2 → Nat) (hoff : ∀ a, off a + S32x256.size a ≤ S512x256.size a)
    (ho : off = ![128 * t.val + 32 * s.val, 0]) (f : Buf (Elt F) ((c : Thread nD τ).loc cc0_stg7_0))
    (hf : ∀ i : S512x256.Idx, blockOf i ∉ (t, s) :: l → f i = outArr A c i) (i : S512x256.Idx) (hi : blockOf i ∉ l) :
    (outM.access (blockRect off hoff)).write (Elt F) f (outBlk A c t s) Finset.univ i = outArr A c i := by
  subst ho
  by_cases hb : blockOf i = (t, s)
  · have h0 : (i 0).val = 128 * t.val + 32 * s.val + (i 0).val % 32 := by
      have h1 : (i 0).val / 128 = t.val := congrArg (fun x : Dev nD × Fin 4 => x.1.val) hb
      have h2 : (i 0).val % 128 / 32 = s.val := congrArg (fun x : Dev nD × Fin 4 => x.2.val) hb
      omega
    let x : S32x256.Idx := fun a => match a with
      | ⟨0, _⟩ => ⟨(i 0).val % 32, by show _ < 32; omega⟩
      | ⟨1, _⟩ => ⟨(i 1).val, (i 1).isLt⟩
    have hx : (outM.access (blockRect ![128 * t.val + 32 * s.val, 0] hoff)).emb x = i := by
      refine funext fun a => Fin.ext ?_
      match a with
      | ⟨0, _⟩ =>
        show 128 * t.val + 32 * s.val + 1 * ((i 0).val % 32) = (i 0).val
        omega
      | ⟨1, _⟩ =>
        show 0 + 1 * (i 1).val = (i 1).val
        omega
    have hw := View.write_emb_of_mem (v := outM.access (blockRect ![128 * t.val + 32 * s.val, 0] hoff)) (Val := Elt F) f (outBlk A c t s)
      (Finset.mem_univ x)
    rw [hx] at hw
    have hr : outArr A c i = outBlk A c (blockOf i).1 (blockOf i).2 x := rfl
    rw [hb] at hr
    rw [hr]
    exact hw
  · have hn : i ∉ (outM.access (blockRect ![128 * t.val + 32 * s.val, 0] hoff)).setOn Finset.univ := by
      intro hm
      obtain ⟨x, -, rfl⟩ := Finset.mem_map.mp hm
      apply hb
      have hx : (x 0).val < 32 := (x 0).isLt
      have h0 : (((outM.access (blockRect ![128 * t.val + 32 * s.val, 0] hoff)).emb x : S512x256.Idx) 0).val = 128 * t.val + 32 * s.val + 1 * (x 0).val := rfl
      refine Prod.ext (Fin.ext ?_) (Fin.ext ?_)
      · show (((outM.access (blockRect ![128 * t.val + 32 * s.val, 0] hoff)).emb x : S512x256.Idx) 0).val / 128 = t.val
        omega
      · show (((outM.access (blockRect ![128 * t.val + 32 * s.val, 0] hoff)).emb x : S512x256.Idx) 0).val % 128 / 32 = s.val
        omega
    refine (View.write_of_not_mem (v := outM.access (blockRect ![128 * t.val + 32 * s.val, 0] hoff)) (Val := Elt F) f (outBlk A c t s) Finset.univ hn).trans
      (hf i fun h => ?_)
    rcases List.mem_cons.mp h with h | h
    · exact hb h
    · exact hi h

theorem wp_putOut (off : Fin 2 → Nat) (hoff : ∀ a, off a + S32x256.size a ≤ S512x256.size a)
    (ho : off = ![128 * t.val + 32 * s.val, 0]) (r : Pr F) (Q : PUnit → sProp 𝕄) :
    outBut A c ((t, s) :: l) ⊢ iprop((outBut A c l -∗ wps c r Q) -∗ wps c (putOut off hoff (outBlk A c t s) r) Q) := by
  unfold putOut outBut
  simp only [Prog.lift, Prog.bind_op, Prog.bind_ret]
  iintro ⟨%f, %hf, H⟩ Hk
  iapply (wp_load 𝒱₀ (c : Thread nD τ) none Set.univ (m := outM) (Finset.subset_univ _)) $$ H
  iintro H
  iapply (wp_store 𝒱₀ (c : Thread nD τ) none Set.univ (m := outM) (r := blockRect off hoff) (Mk := Finset.univ) (Finset.subset_univ _)) $$ H
  iintro H
  iapply Hk
  iexists _
  isplitr; · ipureintro; exact put_right A c t s l off hoff ho f hf
  iexact H

end Put

/-! ## The two kinds of output step -/

section Finish

variable (A : Args F) (K : Dev nD × CI → ℕ) (c : Dev nD) (s : Fin 4) (l : List (Dev nD × Fin 4))

theorem wp_finish (k : Fin 3) (r : Pr F) (Q : PUnit → sProp 𝕄) :
    iprop(recs A K ∗ (Debt c [] ∗ outBut A c ((peer c k, s) :: l)) ∗ toTake c (true, 2, s, k))
      ⊢ iprop((((Debt c [] ∗ outBut A c l) ∗ taken c (true, 2, s, k)) -∗ wps c r Q) -∗ wps c (finish c (A.wo 2 c) s k r) Q) := by
  unfold finish
  iintro ⟨#HR, ⟨HD, Ho⟩, Ht⟩ Hk
  iapply (wp_take A K c (true, 2, s, k) [] (fun y hy => absurd hy List.not_mem_nil) _ Q) $$ [Ht HD]
  · isplitr; · iexact HR
    isplitl [Ht] <;> iassumption
  iintro ⟨Ht, HD⟩
  rw [ofPiece_asPiece]
  iapply (wp_putOut A c (peer c k) s l _ _ (rowsAt_off c k s) r Q) $$ Ho
  iintro Ho
  iapply Hk
  isplitr [Ht]
  · isplitl [HD] <;> iassumption
  iexact Ht

theorem wp_finishOwn (l' : List XI) (hl : ∀ y ∈ l', (phR 2).val < (ph y).val) (r : Pr F) (Q : PUnit → sProp 𝕄) :
    iprop(recs A K ∗ (Debt c ((true, 2, s, 1) :: (true, 2, s, 0) :: (true, 2, s, 2) :: l') ∗ outBut A c ((c, s) :: l)) ∗ actIn c 2 s)
      ⊢ iprop((((Debt c l' ∗ outBut A c l) ∗ actOut A c 2 s) -∗ wps c r Q) -∗ wps c (finishOwn c (A.wo 2 c) s ((lay A 2).own c s) r) Q) := by
  unfold finishOwn
  iintro ⟨#HR, ⟨HD, Ho⟩, Ha⟩ Hk
  iapply (wp_collect A K c 2 s l' hl _ Q) $$ [Ha HD]
  · isplitr; · iexact HR
    isplitl [Ha] <;> iassumption
  iintro ⟨Ha, HD⟩
  rw [ofOwn_asOwn]
  iapply (wp_putOut A c c s l _ _ (Gen.k0_off2_eq c s) r Q) $$ Ho
  iintro Ho
  iapply Hk
  isplitr [Ha]
  · isplitl [HD] <;> iassumption
  iexact Ha

end Finish

end Cert.Mlp

end
-- ==== Proof.Phases.lean ====
/- The phases of the body: the meeting, layer 0's partial products, a layer, the last layer, the ends. -/
module

public import proofs.«01_k».proof.Proof.Output

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The copies, grouped -/

/-- Something for every copy of one layer's partial products or (`true`) activations. -/
def grp (Φ : XI → sProp 𝕄) (b : Bool) (L : Fin 3) : sProp 𝕄 := bigSep Finset.univ fun y : Fin 4 × Fin 3 => Φ (b, L, y.1, y.2)

theorem grp_near (Φ : XI → sProp 𝕄) (b : Bool) (L : Fin 3) : grp Φ b L = bigSepL (pairs near) fun y => Φ (b, L, y.1, y.2) :=
  bigSep_univ_eq_bigSepL (pairs near) (by decide) (by decide) _
theorem grp_far (Φ : XI → sProp 𝕄) (b : Bool) (L : Fin 3) : grp Φ b L = bigSepL (pairs far) fun y => Φ (b, L, y.1, y.2) :=
  bigSep_univ_eq_bigSepL (pairs far) (by decide) (by decide) _
theorem grp_rows (Φ : XI → sProp 𝕄) (b : Bool) (L : Fin 3) :
    grp Φ b L = bigSep Finset.univ fun s => bigSep Finset.univ fun k => Φ (b, L, s, k) := by
  unfold grp; rw [bigSep_univ_prod]
theorem grp_sep (Φ Ψ : XI → sProp 𝕄) (b : Bool) (L : Fin 3) : grp (fun x => iprop(Φ x ∗ Ψ x)) b L = iprop(grp Φ b L ∗ grp Ψ b L) :=
  bigSep_sep' _ _ _

theorem bigSep_flags (Φ : Bool → sProp 𝕄) : bigSep Finset.univ Φ = iprop(Φ false ∗ Φ true) :=
  bigSep_univ_eq_bigSepL [false, true] (by decide) (by decide) Φ
theorem bigSep_four (Φ : Fin 4 → sProp 𝕄) : bigSep Finset.univ Φ = bigSepL [0, 1, 2, 3] Φ :=
  bigSep_univ_eq_bigSepL [0, 1, 2, 3] (by decide) (by decide) Φ

/-- All copies, group by group. -/
theorem all_grps (Φ : XI → sProp 𝕄) :
    bigSep Finset.univ Φ = iprop((grp Φ false 0 ∗ grp Φ false 1 ∗ grp Φ false 2) ∗ grp Φ true 0 ∗ grp Φ true 1 ∗ grp Φ true 2) := by
  rw [bigSep_univ_prod, bigSep_flags, bigSep_univ_prod, bigSep_univ_prod, bigSep_three, bigSep_three]
  rfl

/-- All copies, by the peer they concern. -/
def byPeer : Fin 3 × (Bool × Fin 3 × Fin 4) ≃ XI :=
  ⟨fun y => (y.2.1, y.2.2.1, y.2.2.2, y.1), fun x => (x.2.2.2, x.1, x.2.1, x.2.2.1), fun _ => rfl, fun _ => rfl⟩
theorem all_peers (Φ : XI → sProp 𝕄) :
    bigSep Finset.univ Φ = bigSep Finset.univ fun k : Fin 3 => bigSep Finset.univ fun y : Bool × Fin 3 × Fin 4 => Φ (y.1, y.2.1, y.2.2, k) := by
  rw [bigSep_univ_equiv byPeer, bigSep_univ_prod]
  rfl

theorem acts_in (c : Dev nD) (L : Fin 3) :
    (bigSepL [0, 1, 2, 3] (actIn c L) : sProp 𝕄)
      = iprop((bigSep Finset.univ fun s => held c (piece4 ownB L s)) ∗ grp (toTake c) false L ∗ grp (toSend c) true L) := by
  rw [← bigSep_four, grp_rows, grp_rows, ← bigSep_sep', ← bigSep_sep']
  rfl
theorem acts_out (A : Args F) (c : Dev nD) (L : Fin 3) :
    (bigSepL [0, 1, 2, 3] (actOut A c L) : sProp 𝕄)
      = iprop((bigSep Finset.univ fun s => owns (c : Thread nD τ) (piece4 ownB L s) fullShare.left (hidden (lay A L) c s))
        ∗ grp (taken c) false L ∗ grp (gone c) true L) := by
  rw [← bigSep_four, grp_rows, grp_rows, ← bigSep_sep', ← bigSep_sep']
  rfl

/-! ## The meeting -/

section Meet

variable (A : Args F) (K : Dev nD × CI → ℕ) (c : Dev nD)

/-- What device `c` needs for the meeting, beside what it owes: the three duties it pays, its own cell, and every place
    copies reach it at. -/
def meetIn : sProp 𝕄 :=
  iprop((bigSep Finset.univ fun k : Fin 3 => dutyTok ER (cell (peer c k) bar) 0 k.rev)
    ∗ atPos ER (cell c bar) 0 ∅ 0 ∗ cred (tallyAt (cell c bar) () 3) ∗ bigSep Finset.univ fun x : XI => held c (land x))
/-- What it then has: every place its own copies land at. -/
def meetOut : sProp 𝕄 :=
  iprop(atPos ER (cell c bar) 1 ∅ 0 ∗ bigSep Finset.univ fun x : XI => held (peer c x.2.2.2) (land x.back))

/-- One word to the device `k + 1` steps further. -/
theorem wp_tell (k : Fin 3) (O : CellTallies nD τ sig Unit) (W : Waits sig Unit) (r : PUnit → Pr F) (Q : PUnit → sProp 𝕄) :
    iprop(recs A K ∗ owes (c : Thread nD τ) (O + dueBar c k) W ∗ dutyTok ER (cell (peer c k) bar) 0 k.rev
        ∗ (bigSep Finset.univ fun y : Bool × Fin 3 × Fin 4 => held c (land (y.1, y.2.1, y.2.2, k))))
      ⊢ iprop((owes (c : Thread nD τ) O W -∗ wps c (r ⟨⟩) Q)
        -∗ wps c (.op (.semSignal (peer c k : Thread nD τ) barSem 1) r) Q) := by
  iintro ⟨#HR, HO, Ht, Hp⟩ Hk
  iapply (Rounds.wp_signal 𝒱₀ ER (Rd A) (c : Thread nD τ) none (dst := (peer c k : Thread nD τ)) (κ := K (peer c k, bar))
      (d := k.rev) (r := 0) (by show _ ∈ (Rd A).duties (cell (peer c k) bar) 0; rw [duties_bar]; exact Finset.mem_univ _) (amount_bar A (peer c k) k.rev) () O rfl) $$ [HO Ht Hp]
  · isplitr; · iapply (recs_inv A K (peer c k) bar); iexact HR
    isplitl [HO]; · iexact HO
    isplitl [Ht]; · iexact Ht
    isplitl [Hp]
    · iapply (Entails.of_eq (show barPay (peer c k) k.rev = (Rd A).payload ((peer c k : Thread nD τ), SemLoc.reg barSem) 0 k.rev from
        (payload_bar A (peer c k) k.rev).symm)); unfold barPay; rw [peer_back, Fin.rev_rev]; iexact Hp
    iapply (recs_reached A K (peer c k) bar); iexact HR
  iexact Hk

theorem wp_meet (W : Waits sig Unit) (r : Pr F) (Q : PUnit → sProp 𝕄) :
    iprop(recs A K ∗ owes (c : Thread nD τ) (O₀ c) W ∗ meetIn c)
      ⊢ iprop(((meetOut c ∗ Debt c due0) -∗ wps c r Q) -∗ wps c (meet c r) Q) := by
  unfold meet meetIn meetOut O₀
  simp only [semSignalWord, semWaitWord, Prog.lift, Prog.bind_op, Prog.bind_ret]
  rw [all_peers (fun x : XI => held c (land x)), bigSep_three, bigSep_three]
  iintro ⟨#HR, HO, ⟨⟨Ht0, Ht1, Ht2⟩, Hat, Hcr, ⟨Hp0, Hp1, Hp2⟩⟩⟩ Hk
  iapply (wp_tell A K c 0 (owed c due0 + dueBar c 2 + dueBar c 1) W _ Q) $$ [HO Ht0 Hp0]
  · isplitr; · iexact HR
    isplitl [HO]; · iexact HO
    isplitl [Ht0] <;> iassumption
  iintro HO
  iapply (wp_tell A K c 1 (owed c due0 + dueBar c 2) W _ Q) $$ [HO Ht1 Hp1]
  · isplitr; · iexact HR
    isplitl [HO]; · iexact HO
    isplitl [Ht1] <;> iassumption
  iintro HO
  iapply (wp_tell A K c 2 (owed c due0) W _ Q) $$ [HO Ht2 Hp2]
  · isplitr; · iexact HR
    isplitl [HO]; · iexact HO
    isplitl [Ht2] <;> iassumption
  iintro HO
  iapply (Rounds.wp_wait_rest_token 𝒱₀ ER (Rd A) (c : Thread nD τ) none (κ := K (c, bar)) (sm := csem bar)
      (wpE_semWait_eq 𝒱₀ (c : Thread nD τ) none Set.univ) (Set.mem_univ _) () (O := owed c due0) (W := W) (R := 0) (m := 0) (T := ∅)
      (by rw [expect_bar]; decide)) $$ [Hcr HO Hat]
  · isplitr; · iapply (recs_inv A K c bar); iexact HR
    isplitl [Hcr]; · iexact Hcr
    isplitl [HO]; · iexact HO
    isplitr
    · iapply (mayWait c bar due0 (fun y _ => Nat.lt_of_lt_of_le (Nat.lt_succ_self 1) (Nat.le_add_right 2 _)))
      iapply (recs_lev A K); iexact HR
    iexact Hat
  iintro ⟨HO, Hat, -, Hpay⟩
  ihave Hp := (Entails.of_eq (rest_bar A c)) $$ Hpay
  iapply Hk
  isplitl [Hat Hp]
  · isplitl [Hat]; · iexact Hat
    rw [all_peers (fun x : XI => held (peer c x.2.2.2) (land x.back))]
    iexact Hp
  unfold Debt
  iexists _; iexact HO

end Meet

/-! ## The layers -/

section Layers

variable (A : Args F) (K : Dev nD × CI → ℕ) (c : Dev nD)

theorem wp_start (r : (Fin 4 → FVec F S32x512 .f32) → Pr F) (Q : PUnit → sProp 𝕄) :
    iprop(recs A K ∗ holds c (Memref.whole cc0_stg1_0) (A.wi 0 c) ∗ xAt A c ∗ Debt c due0 ∗ grp (partIn c) false 0)
      ⊢ iprop(((holds c (Memref.whole cc0_stg1_0) (A.wi 0 c) ∗ xAt A c ∗ Debt c due1 ∗ grp (gone c) false 0)
          -∗ wps c (r ((lay A 0).own c)) Q)
        -∗ wps c (start c r) Q) := by
  have hv : ![inDot (A.wi 0 c) (rowsMine A c 0), inDot (A.wi 0 c) (rowsMine A c 1), inDot (A.wi 0 c) (rowsMine A c 2),
      inDot (A.wi 0 c) (rowsMine A c 3)] = (lay A 0).own c := funext fun s => by fin_cases s <;> rfl
  unfold start
  rw [grp_far, grp_far]
  iintro ⟨#HR, Hw, Hx, HD, Hp⟩ Hk
  iapply (wp_loadIn c (Memref.whole cc0_stg1_0) (A.wi 0 c) _ Q) $$ Hw
  iintro Hw
  iapply (wp_foldr c (fun y => firstPart c (A.wi 0 c) y.1 y.2) Q (recs A K)
    (fun l => iprop(xAt A c ∗ Debt c (l.map (fun y => ((false, 0, y.1, y.2) : XI)) ++ due1)))
    (fun y => partIn c (false, 0, y.1, y.2)) (fun y => gone c (false, 0, y.1, y.2))
    (by
      intro y l r
      iintro ⟨#HR, ⟨Hx, HD⟩, Hp⟩ Hk
      iapply (wp_firstPart A K c y.1 y.2 (l.map (fun y => ((false, 0, y.1, y.2) : XI)) ++ due1) r Q) $$ [Hx HD Hp]
      · isplitr; · iexact HR
        isplitl [Hx]; · iexact Hx
        isplitl [Hp]; · iexact Hp
        iexact HD
      iintro ⟨Hx, Hg, HD⟩
      iapply Hk
      isplitl [Hx HD]
      · isplitl [Hx] <;> iassumption
      iexact Hg) _ (pairs far)) $$ [Hx HD Hp]
  · isplitr; · iexact HR
    isplitl [Hx HD]
    · isplitl [Hx]; · iexact Hx
      iexact HD
    iexact Hp
  iintro ⟨⟨Hx, HD⟩, Hg⟩
  unfold firstOwn
  simp only [Prog.lift, Prog.bind_op, Prog.bind_ret]
  iapply (wp_rowsOwn A c 0 _ Q) $$ Hx; iintro Hx
  iapply (wp_rowsOwn A c 1 _ Q) $$ Hx; iintro Hx
  iapply (wp_rowsOwn A c 2 _ Q) $$ Hx; iintro Hx
  iapply (wp_rowsOwn A c 3 _ Q) $$ Hx; iintro Hx
  rw [hv]
  iapply Hk
  isplitl [Hw]; · iexact Hw
  isplitl [Hx]; · iexact Hx
  isplitl [HD]; · iexact HD
  iexact Hg

/-- A block's three activations' copies. -/
abbrev act3 (L : Fin 3) (s : Fin 4) : List XI := [(true, L, s, 1), (true, L, s, 0), (true, L, s, 2)]

theorem above_act3 (L : Fin 3) (s : Fin 4) (l : List XI) (hl : ∀ y ∈ l, (phR L).val < (ph y).val) :
    ∀ y ∈ act3 L s ++ l, (phR L).val < (ph y).val := by
  intro y hy
  rcases List.mem_append.mp hy with h | h
  · have : ph y = phG L := by
      rcases List.mem_cons.mp h with rfl | h
      · rfl
      rcases List.mem_cons.mp h with rfl | h
      · rfl
      rw [List.mem_singleton.mp h]; rfl
    rw [this]; exact Nat.lt_succ_self _
  · exact hl y h

/-- A layer but the last. -/
theorem wp_layer (L L' : Fin 3) (Mo : Memref sig .tc .vmem S512x256 .bf16) (Mi : Memref sig .tc .vmem S256x512 .bf16)
    (hn : lay A L' = nextLay A L L' (lay A L)) (hL : L < L') (rest : List XI) (hr : ∀ y ∈ rest, (phG L).val < (ph y).val)
    (r : (Fin 4 → FVec F S32x512 .f32) → Pr F) (Q : PUnit → sProp 𝕄) :
    iprop(recs A K ∗ holds c Mo (A.wo L c) ∗ holds c Mi (A.wi L' c) ∗ Debt c (acts L ++ (parts L' near ++ rest))
        ∗ bigSepL [0, 1, 2, 3] (actIn c L) ∗ grp (toTake c) true L ∗ grp (partIn c) false L')
      ⊢ iprop(((holds c Mo (A.wo L c) ∗ holds c Mi (A.wi L' c) ∗ Debt c rest
            ∗ bigSepL [0, 1, 2, 3] (actOut A c L) ∗ grp (taken c) true L ∗ grp (gone c) false L')
          -∗ wps c (r ((lay A L').own c)) Q)
        -∗ wps c (layer c L L' Mo Mi ((lay A L).own c) r) Q) := by
  have hv : ![nextDot (A.wo L c) (A.wi L' c) (ofOwn (asOwn (hidden (lay A L) c 0))),
      nextDot (A.wo L c) (A.wi L' c) (ofOwn (asOwn (hidden (lay A L) c 1))),
      nextDot (A.wo L c) (A.wi L' c) (ofOwn (asOwn (hidden (lay A L) c 2))),
      nextDot (A.wo L c) (A.wi L' c) (ofOwn (asOwn (hidden (lay A L) c 3)))] = (lay A L').own c := by
    rw [hn]
    simp only [ofOwn_asOwn]
    exact funext fun s => by fin_cases s <;> rfl
  have hp : ∀ l : List (Fin 4 × Fin 3), ∀ y ∈ l.map (fun y => ((false, L', y.1, y.2) : XI)) ++ rest, (phG L).val < (ph y).val := by
    intro l y hy
    rcases List.mem_append.mp hy with h | h
    · obtain ⟨z, -, rfl⟩ := List.mem_map.mp h
      show 2 * L.val + 1 < 2 * L'.val
      have : L.val < L'.val := hL
      omega
    · exact hr y h
  have h3 : ∀ y ∈ parts L' near ++ rest, (phR L).val < (ph y).val := fun y hy => Nat.lt_of_succ_lt (hp _ y hy)
  have h2 := above_act3 L 3 _ h3
  have h1 := above_act3 L 2 _ h2
  have h0 := above_act3 L 1 _ h1
  unfold layer
  rw [show Debt (F := F) c (acts L ++ (parts L' near ++ rest))
    = Debt c (act3 L 0 ++ (act3 L 1 ++ (act3 L 2 ++ (act3 L 3 ++ (parts L' near ++ rest))))) from rfl]
  simp only [bigSepL_cons']
  iintro ⟨#HR, Hwo, Hwi, HD, ⟨Ha0, Ha1, Ha2, Ha3, -⟩, Ht, Hp⟩ Hk
  iapply (wp_loadOut c Mo (A.wo L c) _ Q) $$ Hwo
  iintro Hwo
  iapply (wp_loadIn c Mi (A.wi L' c) _ Q) $$ Hwi
  iintro Hwi
  iapply (wp_collect A K c L 0 _ h0 _ Q) $$ [Ha0 HD]
  · isplitr; · iexact HR
    isplitl [Ha0]; · iexact Ha0
    iexact HD
  iintro ⟨Ha0, HD⟩
  iapply (wp_collect A K c L 1 _ h1 _ Q) $$ [Ha1 HD]
  · isplitr; · iexact HR
    isplitl [Ha1]; · iexact Ha1
    iexact HD
  iintro ⟨Ha1, HD⟩
  iapply (wp_collect A K c L 2 _ h2 _ Q) $$ [Ha2 HD]
  · isplitr; · iexact HR
    isplitl [Ha2]; · iexact Ha2
    iexact HD
  iintro ⟨Ha2, HD⟩
  iapply (wp_collect A K c L 3 _ h3 _ Q) $$ [Ha3 HD]
  · isplitr; · iexact HR
    isplitl [Ha3]; · iexact Ha3
    iexact HD
  iintro ⟨Ha3, HD⟩
  ihave Hin := (Entails.of_eq (show iprop(grp (toTake c) true L ∗ grp (partIn c) false L')
      = (bigSepL (pairs near) fun y => iprop(toTake c (true, L, y.1, y.2) ∗ partIn c (false, L', y.1, y.2)) : sProp 𝕄) from by
    rw [← bigSep_univ_eq_bigSepL (pairs near) (by decide) (by decide), bigSep_sep']; rfl)) $$ [Ht Hp]
  · isplitl [Ht] <;> iassumption
  iapply (wp_foldr c (fun y => carry c L L' (A.wo L c) (A.wi L' c) y.1 y.2) Q (recs A K)
    (fun l => Debt c (l.map (fun y => ((false, L', y.1, y.2) : XI)) ++ rest))
    (fun y => iprop(toTake c (true, L, y.1, y.2) ∗ partIn c (false, L', y.1, y.2)))
    (fun y => iprop(taken c (true, L, y.1, y.2) ∗ gone c (false, L', y.1, y.2)))
    (by
      intro y l r
      iintro ⟨#HR, HD, Hin⟩ Hk
      iapply (wp_carry A K c L y.1 y.2 (l.map (fun y => ((false, L', y.1, y.2) : XI)) ++ rest) L' hn (hp l) hL r Q) $$ [HD Hin]
      · isplitr; · iexact HR
        isplitl [Hin]; · iexact Hin
        iexact HD
      iintro ⟨Hout, HD⟩
      iapply Hk
      isplitl [HD]; · iexact HD
      iexact Hout) _ (pairs near)) $$ [HD Hin]
  · isplitr; · iexact HR
    isplitl [HD]; · iexact HD
    iexact Hin
  iintro ⟨HD, Hout⟩
  ihave Hout := (Entails.of_eq (show (bigSepL (pairs near) fun y => iprop(taken c (true, L, y.1, y.2) ∗ gone c (false, L', y.1, y.2)) : sProp 𝕄)
      = iprop(grp (taken c) true L ∗ grp (gone c) false L') from by
    rw [← bigSep_univ_eq_bigSepL (pairs near) (by decide) (by decide), bigSep_sep']; rfl)) $$ Hout
  rw [hv]
  iapply Hk
  isplitl [Hwo]; · iexact Hwo
  isplitl [Hwi]; · iexact Hwi
  isplitl [HD]; · iexact HD
  isplitl [Ha0 Ha1 Ha2 Ha3]
  · isplitl [Ha0]; · iexact Ha0
    isplitl [Ha1]; · iexact Ha1
    isplitl [Ha2]; · iexact Ha2
    isplitl [Ha3]; · iexact Ha3
    iempintro
  iexact Hout

/-- The output's blocks in the order they are written. -/
abbrev blocks (c : Dev nD) : List (Dev nD × Fin 4) :=
  ([0, 1, 2, 3] : List (Fin 4)).map (fun s => (c, s)) ++ (pairs near).map fun y => (peer c y.2, y.1)

theorem wp_last (r : Pr F) (Q : PUnit → sProp 𝕄) :
    iprop(recs A K ∗ holds c (Memref.whole cc0_stg6_0) (A.wo 2 c) ∗ Debt c (acts 2) ∗ outBut A c (blocks c)
        ∗ bigSepL [0, 1, 2, 3] (actIn c 2) ∗ grp (toTake c) true 2)
      ⊢ iprop(((holds c (Memref.whole cc0_stg6_0) (A.wo 2 c) ∗ Debt c [] ∗ outBut A c []
            ∗ bigSepL [0, 1, 2, 3] (actOut A c 2) ∗ grp (taken c) true 2) -∗ wps c r Q)
        -∗ wps c (last c ((lay A 2).own c) r) Q) := by
  unfold last
  rw [grp_near, grp_near]
  have hall : ∀ l : List (Fin 4), ∀ y ∈ l.flatMap (act3 2), (phR 2).val < (ph y).val := by
    intro l y hy
    obtain ⟨s, -, hs⟩ := List.mem_flatMap.mp hy
    exact above_act3 2 s [] (fun _ h => absurd h List.not_mem_nil) y (List.mem_append_left _ hs)
  iintro ⟨#HR, Hw, HD, Ho, Ha, Ht⟩ Hk
  iapply (wp_loadOut c (Memref.whole cc0_stg6_0) (A.wo 2 c) _ Q) $$ Hw
  iintro Hw
  iapply (wp_foldr c (fun s => finishOwn c (A.wo 2 c) s ((lay A 2).own c s)) Q (recs A K)
    (fun l => iprop(Debt c (l.flatMap (act3 2)) ∗ outBut A c (l.map (fun s => (c, s)) ++ (pairs near).map fun y => (peer c y.2, y.1))))
    (actIn c 2) (actOut A c 2)
    (fun s l r => wp_finishOwn A K c s (l.map (fun s => (c, s)) ++ (pairs near).map fun y => (peer c y.2, y.1)) (l.flatMap (act3 2)) (hall l) r Q)
    _ [0, 1, 2, 3]) $$ [HD Ho Ha]
  · isplitr; · iexact HR
    isplitl [HD Ho]
    · isplitl [HD]; · iexact HD
      iexact Ho
    iexact Ha
  iintro ⟨⟨HD, Ho⟩, Ha⟩
  iapply (wp_foldr c (fun y => finish c (A.wo 2 c) y.1 y.2) Q (recs A K)
    (fun l => iprop(Debt c [] ∗ outBut A c (l.map fun y => (peer c y.2, y.1))))
    (fun y => toTake c (true, 2, y.1, y.2)) (fun y => taken c (true, 2, y.1, y.2))
    (by intro y l r; exact wp_finish A K c y.1 (l.map fun y => (peer c y.2, y.1)) y.2 r Q)
    _ (pairs near)) $$ [HD Ho Ht]
  · isplitr; · iexact HR
    isplitl [HD Ho]
    · isplitl [HD]; · iexact HD
      iexact Ho
    iexact Ht
  iintro ⟨⟨HD, Ho⟩, Ht⟩
  iapply Hk
  isplitl [Hw]; · iexact Hw
  isplitl [HD]; · iexact HD
  isplitl [Ho]; · iexact Ho
  isplitl [Ha]; · iexact Ha
  iexact Ht

end Layers

/-! ## The ends -/

section Settle

variable (A : Args F) (K : Dev nD × CI → ℕ) (c : Dev nD)

theorem wp_ends (b : Bool) (L : Fin 3) (o : List (Fin 3)) (hu : Finset.univ = (pairs o).toFinset) (hd : (pairs o).Nodup)
    (step : Fin 3 → Fin 4 → Fin 3 → Pr F → Pr F) (Q : PUnit → sProp 𝕄)
    (h : ∀ s k r, iprop(recs A K ∗ Debt c [] ∗ toEnd c (b, L, s, k))
      ⊢ iprop(((Debt c [] ∗ ended A c (b, L, s, k)) -∗ wps c r Q) -∗ wps c (step L s k r) Q)) (r : Pr F) :
    iprop(recs A K ∗ Debt c [] ∗ grp (toEnd c) b L)
      ⊢ iprop(((Debt c [] ∗ grp (ended A c) b L) -∗ wps c r Q) -∗ wps c ((pairs o).foldr (fun y => step L y.1 y.2) r) Q) := by
  unfold grp
  rw [bigSep_univ_eq_bigSepL (pairs o) hu hd, bigSep_univ_eq_bigSepL (pairs o) hu hd]
  exact wp_foldr (I := Fin 4 × Fin 3) c (fun y => step L y.1 y.2) Q (recs A K) (fun _ => Debt c []) (fun y => toEnd c (b, L, y.1, y.2))
    (fun y => ended A c (b, L, y.1, y.2)) (by intro y l r; exact h y.1 y.2 r) r (pairs o)

theorem wp_settle (r : Pr F) (Q : PUnit → sProp 𝕄) :
    iprop(recs A K ∗ Debt c [] ∗ bigSep Finset.univ (toEnd c))
      ⊢ iprop(((Debt c [] ∗ bigSep Finset.univ (ended A c)) -∗ wps c r Q) -∗ wps c (settle r) Q) := by
  unfold settle
  rw [all_grps, all_grps]
  iintro ⟨#HR, HD, ⟨⟨H1, H3, H5⟩, H2, H4, H6⟩⟩ Hk
  iapply (wp_ends A K c false 0 far (by decide) (by decide) endPart Q (fun s k r => wp_endPart A K c 0 s k r Q) _) $$ [HD H1]
  · isplitr; · iexact HR
    isplitl [HD] <;> iassumption
  iintro ⟨HD, H1⟩
  iapply (wp_ends A K c true 0 far (by decide) (by decide) endAct Q (fun s k r => wp_endAct A K c 0 s k r Q) _) $$ [HD H2]
  · isplitr; · iexact HR
    isplitl [HD] <;> iassumption
  iintro ⟨HD, H2⟩
  iapply (wp_ends A K c false 1 near (by decide) (by decide) endPart Q (fun s k r => wp_endPart A K c 1 s k r Q) _) $$ [HD H3]
  · isplitr; · iexact HR
    isplitl [HD] <;> iassumption
  iintro ⟨HD, H3⟩
  iapply (wp_ends A K c true 1 far (by decide) (by decide) endAct Q (fun s k r => wp_endAct A K c 1 s k r Q) _) $$ [HD H4]
  · isplitr; · iexact HR
    isplitl [HD] <;> iassumption
  iintro ⟨HD, H4⟩
  iapply (wp_ends A K c false 2 near (by decide) (by decide) endPart Q (fun s k r => wp_endPart A K c 2 s k r Q) _) $$ [HD H5]
  · isplitr; · iexact HR
    isplitl [HD] <;> iassumption
  iintro ⟨HD, H5⟩
  iapply (wp_ends A K c true 2 far (by decide) (by decide) endAct Q (fun s k r => wp_endAct A K c 2 s k r Q) _) $$ [HD H6]
  · isplitr; · iexact HR
    isplitl [HD] <;> iassumption
  iintro ⟨HD, H6⟩
  iapply Hk
  isplitl [HD]; · iexact HD
  isplitl [H1 H3 H5]
  · isplitl [H1]; · iexact H1
    isplitl [H3] <;> iassumption
  isplitl [H2]; · iexact H2
  isplitl [H4] <;> iassumption

end Settle

end Cert.Mlp

end
-- ==== Proof.Whole.lean ====
/- The whole body: what it takes and what it leaves. -/
module

public import proofs.«01_k».proof.Proof.Phases

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole

variable (A : Args F) (K : Dev nD × CI → ℕ) (c : Dev nD)

/-- The weights' buffers. -/
def weights : sProp 𝕄 :=
  iprop(holds c (Memref.whole cc0_stg1_0) (A.wi 0 c) ∗ holds c (Memref.whole cc0_stg2_0) (A.wo 0 c)
    ∗ holds c (Memref.whole cc0_stg3_0) (A.wi 1 c) ∗ holds c (Memref.whole cc0_stg4_0) (A.wo 1 c)
    ∗ holds c (Memref.whole cc0_stg5_0) (A.wi 2 c) ∗ holds c (Memref.whole cc0_stg6_0) (A.wo 2 c))

/-- The duties device `c` pays: its copies' ends and landings. -/
def pays : sProp 𝕄 :=
  iprop((bigSep Finset.univ fun x : XI => dutyTok ER (cell c (snd x)) 0 0)
    ∗ bigSep Finset.univ fun x : XI => dutyTok ER (cell (peer c x.2.2.2) (rcv x.back)) 0 0)

/-- What device `c` starts from. -/
def runIn : sProp 𝕄 :=
  iprop(meetIn c ∗ xAt A c ∗ weights A c ∗ outBut A c (blocks c) ∗ pays c ∗ bigSep Finset.univ (toTake c)
    ∗ (bigSep Finset.univ fun x : XI => atPos ER (cell c (snd x)) 0 ∅ 0)
    ∗ (bigSep Finset.univ fun y : Fin 3 × Fin 4 × Fin 3 => held c (piece5 sendB y.1 y.2.1 y.2.2))
    ∗ bigSep Finset.univ fun y : Fin 3 × Fin 4 => held c (piece4 ownB y.1 y.2))
/-- What it ends with. -/
def runOut : sProp 𝕄 :=
  iprop(atPos ER (cell c bar) 1 ∅ 0 ∗ xAt A c ∗ weights A c ∗ outBut A c [] ∗ bigSep Finset.univ (taken c)
    ∗ bigSep Finset.univ (ended A c)
    ∗ bigSep Finset.univ fun y : Fin 3 × Fin 4 => owns (c : Thread nD τ) (piece4 ownB y.1 y.2) fullShare.left (hidden (lay A y.1) c y.2))

theorem send_pieces :
    (bigSep Finset.univ fun y : Fin 3 × Fin 4 × Fin 3 => (held c (piece5 sendB y.1 y.2.1 y.2.2) : sProp 𝕄))
      = iprop(grp (fun x => held c (src x)) false 0 ∗ grp (fun x => held c (src x)) false 1 ∗ grp (fun x => held c (src x)) false 2) := by
  rw [bigSep_univ_prod, bigSep_three]; rfl

theorem toSend_all : iprop(pays c ∗ bigSep Finset.univ fun x : XI => held (peer c x.2.2.2) (land x.back))
    = (bigSep Finset.univ (toSend c) : sProp 𝕄) := by
  have h1 : iprop(pays c ∗ bigSep Finset.univ fun x : XI => held (peer c x.2.2.2) (land x.back)) ⊢ (bigSep Finset.univ (toSend c) : sProp 𝕄) := by
    unfold toSend pays
    rw [bigSep_sep', bigSep_sep']
    iintro ⟨⟨H1, H2⟩, H3⟩
    isplitl [H1]; · iexact H1
    isplitl [H2]; · iexact H2
    iexact H3
  have h2 : (bigSep Finset.univ (toSend c) : sProp 𝕄) ⊢ iprop(pays c ∗ bigSep Finset.univ fun x : XI => held (peer c x.2.2.2) (land x.back)) := by
    unfold toSend pays
    rw [bigSep_sep', bigSep_sep']
    iintro ⟨H1, H2, H3⟩
    isplitl [H1 H2]
    · isplitl [H1]; · iexact H1
      iexact H2
    iexact H3
  exact BI.equiv_iff.mp ⟨h1, h2⟩

theorem partIn_grp (L : Fin 3) : iprop(grp (fun x => held c (src x)) false L ∗ grp (toSend c) false L) = (grp (partIn c) false L : sProp 𝕄) :=
  (grp_sep _ _ _ _).symm

theorem wp_run (W : Waits sig Unit) (Q : PUnit → sProp 𝕄) :
    iprop(recs A K ∗ owes (c : Thread nD τ) (O₀ c) W ∗ runIn A c)
      ⊢ iprop(((runOut A c ∗ Debt c []) -∗ |={Set.univ}=> Q ⟨⟩) -∗ wps c (run c) Q) := by
  unfold run runIn
  rw [send_pieces, bigSep_univ_prod (fun y : Fin 3 × Fin 4 => (held c (piece4 ownB y.1 y.2) : sProp 𝕄)), bigSep_three,
    all_grps (toTake c)]
  unfold weights
  iintro ⟨#HR, HO, Hmeet, Hx, ⟨Hw0, Hw1, Hw2, Hw3, Hw4, Hw5⟩, Hout, Hpays, ⟨⟨Tf0, Tf1, Tf2⟩, Tt0, Tt1, Tt2⟩, Hat, ⟨S0, S1, S2⟩, B0, B1, B2⟩ Hk
  iapply (wp_meet A K c W _ Q) $$ [HO Hmeet]
  · isplitr; · iexact HR
    isplitl [HO]; · iexact HO
    iexact Hmeet
  iintro ⟨Hmeet, HD⟩
  unfold meetOut
  icases Hmeet with ⟨Hbar, Hland⟩
  ihave Hs := (Entails.of_eq ((toSend_all c).trans (all_grps (toSend c)))) $$ [Hpays Hland]
  · isplitl [Hpays]; · iexact Hpays
    iexact Hland
  icases Hs with ⟨⟨D0, D1, D2⟩, E0, E1, E2⟩
  ihave P0 := (Entails.of_eq (partIn_grp c 0)) $$ [S0 D0]
  · isplitl [S0]; · iexact S0
    iexact D0
  ihave P1 := (Entails.of_eq (partIn_grp c 1)) $$ [S1 D1]
  · isplitl [S1]; · iexact S1
    iexact D1
  ihave P2 := (Entails.of_eq (partIn_grp c 2)) $$ [S2 D2]
  · isplitl [S2]; · iexact S2
    iexact D2
  ihave A0 := (Entails.of_eq (acts_in c 0).symm) $$ [B0 Tf0 E0]
  · isplitl [B0]; · iexact B0
    isplitl [Tf0]; · iexact Tf0
    iexact E0
  ihave A1 := (Entails.of_eq (acts_in c 1).symm) $$ [B1 Tf1 E1]
  · isplitl [B1]; · iexact B1
    isplitl [Tf1]; · iexact Tf1
    iexact E1
  ihave A2 := (Entails.of_eq (acts_in c 2).symm) $$ [B2 Tf2 E2]
  · isplitl [B2]; · iexact B2
    isplitl [Tf2]; · iexact Tf2
    iexact E2
  iapply (wp_start A K c _ Q) $$ [Hw0 Hx HD P0]
  · isplitr; · iexact HR
    isplitl [Hw0]; · iexact Hw0
    isplitl [Hx]; · iexact Hx
    isplitl [HD]; · iexact HD
    iexact P0
  iintro ⟨Hw0, Hx, HD, G0⟩
  iapply (wp_layer A K c 0 1 (Memref.whole cc0_stg2_0) (Memref.whole cc0_stg3_0) rfl (by decide) due3 (by decide +kernel) _ Q) $$ [Hw1 Hw2 HD A0 Tt0 P1]
  · isplitr; · iexact HR
    isplitl [Hw1]; · iexact Hw1
    isplitl [Hw2]; · iexact Hw2
    isplitl [HD]; · iexact HD
    isplitl [A0]; · iexact A0
    isplitl [Tt0]; · iexact Tt0
    iexact P1
  iintro ⟨Hw1, Hw2, HD, A0, Tt0, G1⟩
  iapply (wp_layer A K c 1 2 (Memref.whole cc0_stg4_0) (Memref.whole cc0_stg5_0) rfl (by decide) due5 (by decide +kernel) _ Q) $$ [Hw3 Hw4 HD A1 Tt1 P2]
  · isplitr; · iexact HR
    isplitl [Hw3]; · iexact Hw3
    isplitl [Hw4]; · iexact Hw4
    isplitl [HD]; · iexact HD
    isplitl [A1]; · iexact A1
    isplitl [Tt1]; · iexact Tt1
    iexact P2
  iintro ⟨Hw3, Hw4, HD, A1, Tt1, G2⟩
  iapply (wp_last A K c _ Q) $$ [Hw5 HD Hout A2 Tt2]
  · isplitr; · iexact HR
    isplitl [Hw5]; · iexact Hw5
    isplitl [HD]; · iexact HD
    isplitl [Hout]; · iexact Hout
    isplitl [A2]; · iexact A2
    iexact Tt2
  iintro ⟨Hw5, HD, Hout, A2, Tt2⟩
  ihave A0 := (Entails.of_eq (acts_out A c 0)) $$ A0
  ihave A1 := (Entails.of_eq (acts_out A c 1)) $$ A1
  ihave A2 := (Entails.of_eq (acts_out A c 2)) $$ A2
  icases A0 with ⟨B0, Tf0, E0⟩
  icases A1 with ⟨B1, Tf1, E1⟩
  icases A2 with ⟨B2, Tf2, E2⟩
  ihave Hg := (Entails.of_eq (all_grps (gone c)).symm) $$ [G0 G1 G2 E0 E1 E2]
  · isplitl [G0 G1 G2]
    · isplitl [G0]; · iexact G0
      isplitl [G1]; · iexact G1
      iexact G2
    isplitl [E0]; · iexact E0
    isplitl [E1]; · iexact E1
    iexact E2
  ihave He := (Entails.of_eq (bigSep_sep' Finset.univ (fun x : XI => (atPos ER (cell c (snd x)) 0 ∅ 0 : sProp 𝕄)) (gone c)).symm) $$ [Hat Hg]
  · isplitl [Hat]; · iexact Hat
    iexact Hg
  iapply (wp_settle A K c _ Q) $$ [HD He]
  · isplitr; · iexact HR
    isplitl [HD]; · iexact HD
    iexact He
  iintro ⟨HD, He⟩
  rw [Prog.pure_eq_ret]
  unfold wps
  rw [wp_ret]
  iapply Hk
  isplitr [HD]
  · unfold runOut weights
    rw [all_grps (taken c), bigSep_univ_prod (fun y : Fin 3 × Fin 4 =>
      (owns (c : Thread nD τ) (piece4 ownB y.1 y.2) fullShare.left (hidden (lay A y.1) c y.2) : sProp 𝕄)), bigSep_three]
    isplitl [Hbar]; · iexact Hbar
    isplitl [Hx]; · iexact Hx
    isplitl [Hw0 Hw1 Hw2 Hw3 Hw4 Hw5]
    · isplitl [Hw0]; · iexact Hw0
      isplitl [Hw1]; · iexact Hw1
      isplitl [Hw2]; · iexact Hw2
      isplitl [Hw3]; · iexact Hw3
      isplitl [Hw4]; · iexact Hw4
      iexact Hw5
    isplitl [Hout]; · iexact Hout
    isplitl [Tf0 Tf1 Tf2 Tt0 Tt1 Tt2]
    · isplitl [Tf0 Tf1 Tf2]
      · isplitl [Tf0]; · iexact Tf0
        isplitl [Tf1]; · iexact Tf1
        iexact Tf2
      isplitl [Tt0]; · iexact Tt0
      isplitl [Tt1]; · iexact Tt1
      iexact Tt2
    isplitl [He]; · iexact He
    isplitl [B0]; · iexact B0
    isplitl [B1]; · iexact B1
    iexact B2
  iexact HD

end Whole

/-! ## The buffers put together again -/

section After

variable (A : Args F) (K : Dev nD × CI → ℕ) (c : Dev nD)

/-- What the copies leave behind: the positions, and every place they came from and landed at. -/
theorem ended_all : (bigSep Finset.univ (ended A c) : sProp 𝕄)
    = iprop((bigSep Finset.univ fun x : XI => atPos ER (cell c (snd x)) 1 ∅ 0) ∗ bigSep Finset.univ (sndPay A c)) :=
  bigSep_sep' _ _ _
theorem taken_all : (bigSep Finset.univ (taken c) : sProp 𝕄)
    = iprop((bigSep Finset.univ fun x : XI => atPos ER (cell c (rcv x)) 1 ∅ 0) ∗ bigSep Finset.univ fun x : XI => held c (land x)) :=
  bigSep_sep' _ _ _

/-- The landing places, buffer by buffer. -/
theorem lands_all : (bigSep Finset.univ fun x : XI => (held c (land x) : sProp 𝕄))
    = iprop((bigSep Finset.univ fun y : Fin 3 × Fin 4 × Fin 3 => held c (piece5 recvB y.1 y.2.1 y.2.2))
      ∗ bigSep Finset.univ fun y : Fin 3 × Fin 4 × Fin 3 => held c (piece5 gathB y.1 y.2.1 y.2.2)) := by
  rw [bigSep_univ_prod, bigSep_flags]; rfl

/-- The partial products' places are held again, and the activations' whole. -/
theorem sources_back :
    iprop(bigSep Finset.univ (sndPay A c)
        ∗ bigSep Finset.univ fun y : Fin 3 × Fin 4 => owns (c : Thread nD τ) (piece4 ownB y.1 y.2) fullShare.left (hidden (lay A y.1) c y.2))
      ⊢ (iprop((bigSep Finset.univ fun y : Fin 3 × Fin 4 × Fin 3 => held c (piece5 sendB y.1 y.2.1 y.2.2))
        ∗ bigSep Finset.univ fun y : Fin 3 × Fin 4 => held c (piece4 ownB y.1 y.2)) : sProp 𝕄) := by
  rw [bigSep_univ_prod (fun x : XI => sndPay A c x), bigSep_flags]
  have he : ∀ y : Fin 3 × Fin 4 × Fin 3, sndPay A c (false, y) ⊢ (held c (piece5 sendB y.1 y.2.1 y.2.2) : sProp 𝕄) := fun y => by
    unfold sndPay held
    iintro H
    iexists _; iexact H
  have ho : ∀ y : Fin 3 × Fin 4, iprop((bigSep Finset.univ fun k : Fin 3 => sndPay A c (true, y.1, y.2, k))
      ∗ owns (c : Thread nD τ) (piece4 ownB y.1 y.2) fullShare.left (hidden (lay A y.1) c y.2)) ⊢ (held c (piece4 ownB y.1 y.2) : sProp 𝕄) := fun y => by
    have hk : ∀ k, (sndPay A c (true, y.1, y.2, k) : sProp 𝕄)
      = owns (c : Thread nD τ) (piece4 ownB y.1 y.2) (lent k) (hidden (lay A y.1) c y.2) := fun k => rfl
    rw [bigSep_three, hk, hk, hk]
    unfold held
    iintro ⟨⟨H0, H1, H2⟩, H⟩
    iexists (hidden (lay A y.1) c y.2)
    rw [own_shares c y.1 y.2]
    isplitl [H]; · iexact H
    isplitl [H0]; · iexact H0
    isplitl [H1]; · iexact H1
    iexact H2
  have h1 : (bigSep Finset.univ fun y : Fin 3 × Fin 4 × Fin 3 => (sndPay A c (false, y) : sProp 𝕄))
      ⊢ bigSep Finset.univ fun y : Fin 3 × Fin 4 × Fin 3 => held c (piece5 sendB y.1 y.2.1 y.2.2) :=
    bigSep_mono fun y _ => he y
  have h2 : iprop((bigSep Finset.univ fun y : Fin 3 × Fin 4 × Fin 3 => (sndPay A c (true, y) : sProp 𝕄))
        ∗ bigSep Finset.univ fun y : Fin 3 × Fin 4 => owns (c : Thread nD τ) (piece4 ownB y.1 y.2) fullShare.left (hidden (lay A y.1) c y.2))
      ⊢ bigSep Finset.univ fun y : Fin 3 × Fin 4 => held c (piece4 ownB y.1 y.2) := by
    have hp : (bigSep Finset.univ fun y : Fin 3 × Fin 4 × Fin 3 => (sndPay A c (true, y) : sProp 𝕄))
        = bigSep Finset.univ fun y : Fin 3 × Fin 4 => bigSep Finset.univ fun k : Fin 3 => sndPay A c (true, y.1, y.2, k) := by
      rw [bigSep_univ_prod, bigSep_univ_prod]
      exact bigSep_congr fun L _ => by rw [bigSep_univ_prod]
    rw [hp, ← bigSep_sep']
    exact bigSep_mono fun y _ => ho y
  iintro ⟨⟨Hf, Ht⟩, Ho⟩
  isplitl [Hf]
  · iapply h1; iexact Hf
  iapply h2
  isplitl [Ht]; · iexact Ht
  iexact Ho

/-- Every semaphore of device `c`, at zero. -/
def sems0 (c : Dev nD) : sProp 𝕄 := bigSep Finset.univ fun i : CI => semVal (cell c i) 0

theorem bigSep_cells (Φ : CI → sProp 𝕄) :
    bigSep Finset.univ Φ = iprop(Φ bar ∗ (bigSep Finset.univ fun x : XI => Φ (snd x)) ∗ bigSep Finset.univ fun x : XI => Φ (rcv x)) := by
  rw [show (Finset.univ : Finset CI) = insert bar (Finset.univ.map ⟨Option.some, Option.some_injective _⟩) from by
      ext i; cases i <;> simp,
    bigSep_insert (by simp), bigSep_map, bigSep_univ_prod, bigSep_flags]
  rfl

/-- The cells close. -/
theorem close_all :
    iprop(recs A K ∗ bigSep Finset.univ fun i : CI => atPos ER (cell c i) 1 ∅ 0) ⊢ (|={Set.univ}=> sems0 c : sProp 𝕄) := by
  have h : ∀ i : CI, iprop(recs A K ∗ atPos ER (cell c i) 1 ∅ 0) ⊢ (|={Set.univ}=> semVal (cell c i) 0 : sProp 𝕄) := fun i => by
    iintro ⟨#HR, Hat⟩
    iapply (Rounds.cell_close ER (Rd A) (Set.mem_univ (K (c, i))) (fun h => h) (R := 0 + 1) (duties_later A (cell c i)))
    isplitr; · iapply (recs_inv A K c i); iexact HR
    iexact Hat
  unfold sems0
  refine (sep_mono_left (BI.bigSep_of_persistent (Finset.univ : Finset CI) (recs A K))).trans ?_
  rw [← bigSep_sep']
  exact (bigSep_mono fun i _ => h i).trans (bigSep_fupd _ _)

end After

end Cert.Mlp

end
-- ==== Proof.Point.lean ====
/- The kernel's one point: what the pipeline hands the body and what it takes back. -/
module

public import proofs.«01_k».proof.Proof.Whole
public import proofs.«01_k».proof.Proof.Gen.KernelIdeal.Frame
public import Idealize.ShloMosaic.Lib.Pipeline.Launch
public import Idealize.ShloMosaic.Lib.Pipeline.Kit

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev t₀ : Fin cfg0.N := Gen.t0_0

section Point

variable (m : (ℓ : Loc nD τ sig) → Buf (Elt F) ℓ) (K : Dev nD × CI → ℕ) (c : Dev nD)

/-- The arguments in memory. -/
def argsOf : Args F where
  x c := Gen.iblk m c 0 t₀
  wi
    | 0 => fun c => Gen.iblk m c 1 t₀
    | 1 => fun c => Gen.iblk m c 3 t₀
    | 2 => fun c => Gen.iblk m c 5 t₀
  wo
    | 0 => fun c => Gen.iblk m c 2 t₀
    | 1 => fun c => Gen.iblk m c 4 t₀
    | 2 => fun c => Gen.iblk m c 6 t₀

/-- What device `c` is dealt of the exchange: the duties it pays, its cells' positions, and the credit of its waits. -/
def dealt : sProp 𝕄 :=
  iprop((bigSep Finset.univ fun k : Fin 3 => dutyTok ER (cell (peer c k) bar) 0 k.rev) ∗ pays c
    ∗ bigSep Finset.univ fun i : CI => atPos ER (cell c i) 0 ∅ 0)
def credits : sProp 𝕄 :=
  iprop(cred (tallyAt (cell c bar) () 3) ∗ bigSep Finset.univ fun x : XI => cred (tallyAt (cell c (rcv x)) () N))
/-- The four buffers of the exchange, at any contents. -/
def buffers : sProp 𝕄 :=
  iprop((∃ f, (sendB.view.loc (c : Thread nD τ)) ↦{fullShare} f) ∗ (∃ f, (recvB.view.loc (c : Thread nD τ)) ↦{fullShare} f)
    ∗ (∃ f, (ownB.view.loc (c : Thread nD τ)) ↦{fullShare} f) ∗ ∃ f, (gathB.view.loc (c : Thread nD τ)) ↦{fullShare} f)

def begin : sProp 𝕄 := iprop((∃ K, recs (argsOf m) K) ∗ dealt c ∗ credits c)
def Φ₀ : sProp 𝕄 := iprop(begin m c ∗ buffers c)
def Φ₁ : sProp 𝕄 := iprop(sems0 c ∗ buffers c)

def dats (_ : Fin 1) (c : Dev nD) : Dat τ (Elt F) Unit ℕ UU ℕ cfg0 c where
  A w := m ((cfg0.win w).arr.view.loc (c : Thread nD τ))
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => outArr (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_of_fetch (w : Fin cfg0.W) (hf : (cfg0.win w).fetch t₀ = true) (d) :
    (dats m 0 c).before w t₀ d = (dats m 0 c).fetched w t₀ d := by
  unfold Dat.before; rw [if_pos hf]

/-! ## The buffers cut up and put together -/

/-- What lies between the pieces of the four buffers. -/
def leftover : sProp 𝕄 :=
  iprop(besides (sets5 c sendB) ∗ besides (sets5 c recvB) ∗ besides (sets4 c ownB) ∗ besides (sets5 c gathB))
/-- The pieces of the four buffers. -/
def places : sProp 𝕄 :=
  iprop((bigSep Finset.univ fun y : Fin 3 × Fin 4 × Fin 3 => held c (piece5 sendB y.1 y.2.1 y.2.2))
    ∗ (bigSep Finset.univ fun x : XI => held c (land x))
    ∗ bigSep Finset.univ fun y : Fin 3 × Fin 4 => held c (piece4 ownB y.1 y.2))

theorem cut_all : (buffers c : sProp 𝕄) ⊢ iprop(places c ∗ leftover c) := by
  unfold buffers leftover places
  rw [lands_all]
  iintro ⟨H0, H1, H2, H3⟩
  ihave H0 := (cut5 c sendB) $$ H0
  ihave H1 := (cut5 c recvB) $$ H1
  ihave H2 := (cut4 c ownB) $$ H2
  ihave H3 := (cut5 c gathB) $$ H3
  icases H0 with ⟨P0, R0⟩
  icases H1 with ⟨P1, R1⟩
  icases H2 with ⟨P2, R2⟩
  icases H3 with ⟨P3, R3⟩
  isplitl [P0 P1 P2 P3]
  · isplitl [P0]; · iexact P0
    isplitl [P1 P3]
    · isplitl [P1]; · iexact P1
      iexact P3
    iexact P2
  isplitl [R0]; · iexact R0
  isplitl [R1]; · iexact R1
  isplitl [R2]; · iexact R2
  iexact R3

theorem join_all : iprop(places c ∗ leftover c) ⊢ (buffers c : sProp 𝕄) := by
  unfold buffers leftover places
  rw [lands_all]
  iintro ⟨⟨P0, ⟨P1, P3⟩, P2⟩, R0, R1, R2, R3⟩
  isplitl [P0 R0]
  · iapply (join5 c sendB)
    isplitl [P0]; · iexact P0
    iexact R0
  isplitl [P1 R1]
  · iapply (join5 c recvB)
    isplitl [P1]; · iexact P1
    iexact R1
  isplitl [P2 R2]
  · iapply (join4 c ownB)
    isplitl [P2]; · iexact P2
    iexact R2
  iapply (join5 c gathB)
  isplitl [P3]; · iexact P3
  iexact R3

/-! ## The output's buffer -/

theorem blocks_all : ∀ (c d : Dev nD) (s : Fin 4), (d, s) ∈ blocks c := by decide +kernel

theorem out_begin : iprop(∃ f, ((c : Thread nD τ).loc cc0_stg7_0) ↦{fullShare} f) ⊢ (outBut (argsOf m) c (blocks c) : sProp 𝕄) := by
  unfold outBut
  iintro ⟨%f, H⟩
  iexists f
  isplitr
  · ipureintro; exact fun i h => absurd (blocks_all c (blockOf i).1 (blockOf i).2) h
  iexact H

theorem owns_of_whole (b : Ref sig .tc) (X : b.ty.Contents (Elt F)) :
    (iprop(((c : Thread nD τ).loc b) ↦{fullShare} (X : Buf (Elt F) ((c : Thread nD τ).loc b))) : sProp 𝕄)
      ⊢ owns (c : Thread nD τ) (Memref.whole b) fullShare X := by
  unfold owns
  simp only [Memref.view_whole, View.read_whole, View.set_whole]
  iintro H
  iexists X
  isplitr; · ipureintro; rfl
  iexact H

theorem whole_of_owns (b : Ref sig .tc) (X : b.ty.Contents (Elt F)) :
    (owns (c : Thread nD τ) (Memref.whole b) fullShare X : sProp 𝕄)
      ⊢ iprop(((c : Thread nD τ).loc b) ↦{fullShare} (X : Buf (Elt F) ((c : Thread nD τ).loc b))) := by
  unfold owns
  simp only [Memref.view_whole, View.read_whole, View.set_whole]
  iintro ⟨%f, %h, H⟩
  subst h
  iexact H

theorem out_end : (outBut (argsOf m) c [] : sProp 𝕄) ⊢ owns (c : Thread nD τ) (Memref.whole cc0_stg7_0) fullShare (outArr (argsOf m) c) := by
  unfold outBut
  iintro ⟨%f, %hf, H⟩
  have h : f = outArr (argsOf m) c := funext fun i => hf i List.not_mem_nil
  subst h
  iapply (owns_of_whole c cc0_stg7_0 (outArr (argsOf m) c))
  iexact H

/-! ## The body -/

/-- From what the point hands over to what the body starts from. -/
theorem run_ready :
    iprop(dealt c ∗ credits c ∗ places c ∗ xAt (argsOf m) c ∗ weights (argsOf m) c ∗ outBut (argsOf m) c (blocks c))
      ⊢ (runIn (argsOf m) c : sProp 𝕄) := by
  have ht : (bigSep Finset.univ (toTake c) : sProp 𝕄) = iprop((bigSep Finset.univ fun x : XI => atPos ER (cell c (rcv x)) 0 ∅ 0)
      ∗ bigSep Finset.univ fun x : XI => cred (tallyAt (cell c (rcv x)) () N)) := bigSep_sep' _ _ _
  unfold dealt credits places runIn meetIn
  rw [bigSep_cells (fun i : CI => (atPos ER (cell c i) 0 ∅ 0 : sProp 𝕄)), ht]
  iintro ⟨⟨Ht, Hp, HaB, HaS, HaR⟩, ⟨HcB, HcR⟩, ⟨Ps, Pl, Po⟩, Hx, Hw, Ho⟩
  isplitl [Ht HaB HcB Pl]
  · isplitl [Ht]; · iexact Ht
    isplitl [HaB]; · iexact HaB
    isplitl [HcB]; · iexact HcB
    iexact Pl
  isplitl [Hx]; · iexact Hx
  isplitl [Hw]; · iexact Hw
  isplitl [Ho]; · iexact Ho
  isplitl [Hp]; · iexact Hp
  isplitl [HaR HcR]
  · isplitl [HaR]; · iexact HaR
    iexact HcR
  isplitl [HaS]; · iexact HaS
  isplitl [Ps]; · iexact Ps
  iexact Po

/-- From what the body ends with to what the point takes back. -/
theorem run_over :
    iprop(recs (argsOf m) K ∗ runOut (argsOf m) c)
      ⊢ (|={Set.univ}=> iprop(sems0 c ∗ places c ∗ xAt (argsOf m) c ∗ weights (argsOf m) c ∗ outBut (argsOf m) c []) : sProp 𝕄) := by
  unfold runOut places
  rw [taken_all, ended_all]
  iintro ⟨#HR, HaB, Hx, Hw, Ho, ⟨HaR, Hl⟩, ⟨HaS, Hs⟩, Hown⟩
  imod (close_all (argsOf m) K c) $$ [HaB HaR HaS] with Hz
  · isplitr; · iexact HR
    rw [bigSep_cells (fun i : CI => (atPos ER (cell c i) 1 ∅ 0 : sProp 𝕄))]
    isplitl [HaB]; · iexact HaB
    isplitl [HaS]; · iexact HaS
    iexact HaR
  ihave Hb := (sources_back (argsOf m) c) $$ [Hs Hown]
  · isplitl [Hs]; · iexact Hs
    iexact Hown
  icases Hb with ⟨Ps, Po⟩
  imodintro
  isplitl [Hz]; · iexact Hz
  isplitl [Ps Po Hl]
  · isplitl [Ps]; · iexact Ps
    isplitl [Hl]; · iexact Hl
    iexact Po
  isplitl [Hx]; · iexact Hx
  isplitl [Hw]; · iexact Hw
  iexact Ho

abbrev stg (w : Fin cfg0.W) (X : (cfg0.win w).block.Idx → Elt F (cfg0.win w).elt) : sProp 𝕄 :=
  owns (c : Thread nD τ) ((cfg0.win w).stage (cfg0.slots t₀ w)) fullShare X

def pre : sProp 𝕄 :=
  iprop(Φ₀ m c ∗ (dats m 0 c).owesAt () t₀.castSucc
    ∗ (∃ d, stg c (0 : Fin 8) ((dats m 0 c).before (0 : Fin 8) t₀ d)) ∗ (∃ d, stg c (1 : Fin 8) ((dats m 0 c).before (1 : Fin 8) t₀ d))
    ∗ (∃ d, stg c (2 : Fin 8) ((dats m 0 c).before (2 : Fin 8) t₀ d)) ∗ (∃ d, stg c (3 : Fin 8) ((dats m 0 c).before (3 : Fin 8) t₀ d))
    ∗ (∃ d, stg c (4 : Fin 8) ((dats m 0 c).before (4 : Fin 8) t₀ d)) ∗ (∃ d, stg c (5 : Fin 8) ((dats m 0 c).before (5 : Fin 8) t₀ d))
    ∗ (∃ d, stg c (6 : Fin 8) ((dats m 0 c).before (6 : Fin 8) t₀ d)) ∗ (∃ d, stg c (7 : Fin 8) ((dats m 0 c).before (7 : Fin 8) t₀ d)))
def post : sProp 𝕄 :=
  iprop(Φ₁ c ∗ (dats m 0 c).owesAt () t₀.succ
    ∗ stg c (0 : Fin 8) ((dats m 0 c).after (0 : Fin 8) t₀) ∗ stg c (1 : Fin 8) ((dats m 0 c).after (1 : Fin 8) t₀)
    ∗ stg c (2 : Fin 8) ((dats m 0 c).after (2 : Fin 8) t₀) ∗ stg c (3 : Fin 8) ((dats m 0 c).after (3 : Fin 8) t₀)
    ∗ stg c (4 : Fin 8) ((dats m 0 c).after (4 : Fin 8) t₀) ∗ stg c (5 : Fin 8) ((dats m 0 c).after (5 : Fin 8) t₀)
    ∗ stg c (6 : Fin 8) ((dats m 0 c).after (6 : Fin 8) t₀) ∗ stg c (7 : Fin 8) ((dats m 0 c).after (7 : Fin 8) t₀))

theorem sound : pre m c ⊢ wps c (Gen.bodyAt0 (F := F) t₀) (fun _ => post m c) := by
  rw [body_eq]
  simp only [Prog.lift, Prog.bind_op, Prog.bind_ret, wps, wp_deviceId]
  have b0 : ∀ d, (dats m 0 c).before (0 : Fin 8) t₀ d = Gen.iblk m c 0 t₀ := fun d => (before_of_fetch m c (0 : Fin 8) (Gen.fetch0_0 _) d).trans rfl
  have b1 : ∀ d, (dats m 0 c).before (1 : Fin 8) t₀ d = Gen.iblk m c 1 t₀ := fun d => (before_of_fetch m c (1 : Fin 8) (Gen.fetch0_1 _) d).trans rfl
  have b2 : ∀ d, (dats m 0 c).before (2 : Fin 8) t₀ d = Gen.iblk m c 2 t₀ := fun d => (before_of_fetch m c (2 : Fin 8) (Gen.fetch0_2 _) d).trans rfl
  have b3 : ∀ d, (dats m 0 c).before (3 : Fin 8) t₀ d = Gen.iblk m c 3 t₀ := fun d => (before_of_fetch m c (3 : Fin 8) (Gen.fetch0_3 _) d).trans rfl
  have b4 : ∀ d, (dats m 0 c).before (4 : Fin 8) t₀ d = Gen.iblk m c 4 t₀ := fun d => (before_of_fetch m c (4 : Fin 8) (Gen.fetch0_4 _) d).trans rfl
  have b5 : ∀ d, (dats m 0 c).before (5 : Fin 8) t₀ d = Gen.iblk m c 5 t₀ := fun d => (before_of_fetch m c (5 : Fin 8) (Gen.fetch0_5 _) d).trans rfl
  have b6 : ∀ d, (dats m 0 c).before (6 : Fin 8) t₀ d = Gen.iblk m c 6 t₀ := fun d => (before_of_fetch m c (6 : Fin 8) (Gen.fetch0_6 _) d).trans rfl
  have a0 : (dats m 0 c).after (0 : Fin 8) t₀ = Gen.iblk m c 0 t₀ := by dsimp only [dats]
  have a1 : (dats m 0 c).after (1 : Fin 8) t₀ = Gen.iblk m c 1 t₀ := by dsimp only [dats]
  have a2 : (dats m 0 c).after (2 : Fin 8) t₀ = Gen.iblk m c 2 t₀ := by dsimp only [dats]
  have a3 : (dats m 0 c).after (3 : Fin 8) t₀ = Gen.iblk m c 3 t₀ := by dsimp only [dats]
  have a4 : (dats m 0 c).after (4 : Fin 8) t₀ = Gen.iblk m c 4 t₀ := by dsimp only [dats]
  have a5 : (dats m 0 c).after (5 : Fin 8) t₀ = Gen.iblk m c 5 t₀ := by dsimp only [dats]
  have a6 : (dats m 0 c).after (6 : Fin 8) t₀ = Gen.iblk m c 6 t₀ := by dsimp only [dats]
  have a7 : (dats m 0 c).after (7 : Fin 8) t₀ = outArr (argsOf m) c := by dsimp only [dats]
  have hx : stg c (0 : Fin 8) (Gen.iblk m c 0 t₀) ⊢ (xAt (argsOf m) c : sProp 𝕄) := whole_of_owns c cc0_stg0_0 ((argsOf m).x c)
  have hx' : xAt (argsOf m) c ⊢ (stg c (0 : Fin 8) (Gen.iblk m c 0 t₀) : sProp 𝕄) := owns_of_whole c cc0_stg0_0 ((argsOf m).x c)
  have ho : ∀ X, stg c (7 : Fin 8) X ⊢ (outBut (argsOf m) c (blocks c) : sProp 𝕄) := fun X =>
    ((whole_of_owns c cc0_stg7_0 X).trans (exists_intro (Φ := fun f => iprop(((c : Thread nD τ).loc cc0_stg7_0) ↦{fullShare} f)) X)).trans (out_begin m c)
  have ho' : outBut (argsOf m) c [] ⊢ (stg c (7 : Fin 8) (outArr (argsOf m) c) : sProp 𝕄) := out_end m c
  unfold pre Φ₀ begin
  simp only [b0, b1, b2, b3, b4, b5, b6]
  unfold Dat.owesAt Pipeline.owesWithin
  rw [show (dats m 0 c).owed t₀.castSucc = O₀ c from rfl]
  iintro ⟨⟨⟨⟨%K, #HR⟩, Hd, Hc⟩, Hb⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave Hb := (cut_all c) $$ Hb
  icases Hb with ⟨Hp, Hl⟩
  ihave Hx := hx $$ H0
  ihave Ho := (ho _) $$ H7
  ihave Hin := (run_ready m c) $$ [Hd Hc Hp Hx H1 H2 H3 H4 H5 H6 Ho]
  · isplitl [Hd]; · iexact Hd
    isplitl [Hc]; · iexact Hc
    isplitl [Hp]; · iexact Hp
    isplitl [Hx]; · iexact Hx
    isplitl [H1 H2 H3 H4 H5 H6]
    · unfold weights holds
      isplitl [H1]; · iexact H1
      isplitl [H2]; · iexact H2
      isplitl [H3]; · iexact H3
      isplitl [H4]; · iexact H4
      isplitl [H5]; · iexact H5
      iexact H6
    iexact Ho
  iapply (wp_run (argsOf m) K c W (fun _ => post m c)) $$ [HO Hin]
  · isplitr; · iexact HR
    isplitl [HO]; · iexact HO
    iexact Hin
  iintro ⟨Hout, HD⟩
  imod (run_over m K c) $$ [Hout] with Hout
  · isplitr; · iexact HR
    iexact Hout
  icases Hout with ⟨Hz, Hp, Hx, Hw, Ho⟩
  unfold weights holds Debt
  icases Hw with ⟨H1, H2, H3, H4, H5, H6⟩
  icases HD with ⟨%W', HO⟩
  imodintro
  unfold post Φ₁
  rw [a0, a1, a2, a3, a4, a5, a6, a7]
  unfold Dat.owesAt Pipeline.owesWithin
  rw [show (dats m 0 c).owed t₀.succ = 0 from rfl]
  isplitl [Hz Hp Hl]
  · isplitl [Hz]; · iexact Hz
    iapply (join_all c)
    isplitl [Hp]; · iexact Hp
    iexact Hl
  isplitl [HO]
  · iexists W'
    isplitr; · ipureintro; exact fun _ _ => Or.inl trivial
    iexact HO
  isplitl [Hx]
  · iapply hx'; iexact Hx
  isplitl [H1]; · iexact H1
  isplitl [H2]; · iexact H2
  isplitl [H3]; · iexact H3
  isplitl [H4]; · iexact H4
  isplitl [H5]; · iexact H5
  isplitl [H6]; · iexact H6
  iapply ho'; iexact Ho

set_option maxRecDepth 8000 in
/-- The library's obligation on the body. -/
theorem obligation : BodyObligation (dats (F := F) m 0 c) (defs₀ (F := F)) 𝒱₀ () Set.univ := fun t => by
  rw [Gen.fin_N0 t]
  rw [Gen.bigSep_W0, Gen.bigSep_W0]
  refine BI.Entails.trans (Q := pre m c) (BI.Entails.refl _) (BI.Entails.trans (sound m c) ?_)
  have live (w : Fin 8) : cfg0.idle w (cfg0.grid.coords t₀) = false := by fin_cases w <;> rfl
  have same : (defs₀ (F := F)) .tc cfg0.body (cfg0.bodyArgs t₀ (cfg0.slots t₀)) = Gen.bodyAt0 (F := F) t₀ := rfl
  simp only [show Gen.t0_0 = t₀ from rfl, live]
  rw [same]
  unfold wps
  congr! 1

end Point

end Cert.Mlp

end
-- ==== Proof.Launch.lean ====
/- The launch: the exchange's cells and tokens dealt to the devices, and the run of the whole program. -/
module

public import proofs.«01_k».proof.Proof.Point
public import Idealize.ShloMosaic.Lib.Pipeline.CollectiveSegs
public import Idealize.ShloMosaic.Lib.Quiescent

@[expose] public section

noncomputable section

namespace Cert.Mlp

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores -/

/-- The kernel's own semaphores: every copy's two. -/
abbrev osem (y : Bool × XI) : SemLoc sig := csem (some y)

theorem ownSemFacts : Pipeline.OwnSemFacts cfg0.spec osem where
  isScoped := by decide +kernel
  inj _ _ h := Option.some_injective _ (csem_inj h)
  disj := by decide +kernel

theorem which_stage (w : Fin 8) (s : Fin (spec0 w).nbuf) : which (.dma ((spec0 w).sem s)) = none := by
  unfold which
  refine dif_neg ?_
  rintro ⟨_ | y, h⟩
  · cases h
  · exact ownSemFacts.disj y w s h

/-! ## The cells and the tokens at launch -/

def cells : Finset (GSem nD τ sig) :=
  (Finset.univ : Finset (Dev nD × CI)).map ⟨fun ci => cell ci.1 ci.2, fun _ _ h => Prod.ext (cell_inj h).1 (cell_inj h).2⟩

/-- A device's tokens: its barrier's three and one of every copy's end and landing. -/
abbrev TI : Type := Fin 3 ⊕ Bool × XI
def tokOf (ct : Dev nD × TI) : GSem nD τ sig × ℕ × Fin 3 := match ct.2 with
  | .inl d => (cell ct.1 bar, 0, d)
  | .inr y => (cell ct.1 (some y), 0, 0)

theorem tokOf_inj : Function.Injective tokOf := by
  rintro ⟨c, d | y⟩ ⟨c', d' | y'⟩ h
  · obtain ⟨rfl, -⟩ := cell_inj (i := bar) (j := bar) (congrArg Prod.fst h)
    have e : d = d' := congrArg (fun z => z.2.2) h
    rw [e]
  · exact absurd (cell_inj (i := bar) (j := some y') (congrArg Prod.fst h)).2 (Option.some_ne_none _).symm
  · exact absurd (cell_inj (i := some y) (j := bar) (congrArg Prod.fst h)).2 (Option.some_ne_none _)
  · obtain ⟨rfl, e⟩ := cell_inj (i := some y) (j := some y') (congrArg Prod.fst h)
    rw [Option.some_injective _ e]

def tokens : Finset (GSem nD τ sig × ℕ × Fin 3) := (Finset.univ : Finset (Dev nD × TI)).map ⟨tokOf, tokOf_inj⟩

def u₀ : UU := (initOf (Pipeline.cells cfgs Gen.cellOf_inj) (Pipeline.launchToks cfgs Gen.cellOf_inj), initOf cells tokens)

/-- The tokens of device `c`'s own cells. -/
def minted (c : Dev nD) : sProp 𝕄 :=
  iprop((bigSep Finset.univ fun d : Fin 3 => dutyTok ER (cell c bar) 0 d)
    ∗ (bigSep Finset.univ fun x : XI => dutyTok ER (cell c (snd x)) 0 0) ∗ bigSep Finset.univ fun x : XI => dutyTok ER (cell c (rcv x)) 0 0)

omit [FloatOps F] in
/-- Dealt round the ring: what every device has for each of its neighbours, every device has. -/
theorem turned {I : Type} [Fintype I] [DecidableEq I] (k : I → Fin 3) (e : I ≃ I) (Ψ : Dev nD → I → sProp 𝕄) :
    (bigSep Finset.univ fun c : Dev nD => bigSep Finset.univ fun i : I => Ψ (peer c (k i)) (e i))
      = bigSep Finset.univ fun c : Dev nD => bigSep Finset.univ fun i : I => Ψ c i := by
  let g : Dev nD × I ≃ Dev nD × I := ⟨fun z => (turn (k z.2) z.1, e z.2), fun z => ((turn (k (e.symm z.2))).symm z.1, e.symm z.2),
    fun z => by simp only [Equiv.symm_apply_apply], fun z => by simp only [Equiv.apply_symm_apply]⟩
  rw [← bigSep_univ_prod (fun z : Dev nD × I => Ψ (peer z.1 (k z.2)) (e z.2)), ← bigSep_univ_prod (fun z : Dev nD × I => Ψ z.1 z.2),
    bigSep_univ_equiv g (fun z : Dev nD × I => Ψ z.1 z.2)]
  rfl

/-- Swapping the two names of a copy. -/
def flip : XI ≃ XI := ⟨XI.back, XI.back, XI.back_back, XI.back_back⟩

/-- What device `c` is dealt at first: its cells' states and positions, and their tokens. -/
def deal (A : Args F) (c : Dev nD) : sProp 𝕄 :=
  iprop((bigSep Finset.univ fun i : CI => roundState ER (Rd A) (cell c i) 0)
    ∗ (bigSep Finset.univ fun i : CI => atPos ER (cell c i) 0 ∅ 0) ∗ (bigSep Finset.univ fun i : CI => reached ER (cell c i) 0) ∗ minted c)

theorem fund_all (A : Args F) : BI.own (ER (initOf cells tokens)) ⊢ (|==> bigSep Finset.univ (deal A) : sProp 𝕄) := by
  have hX (Φ : GSem nD τ sig → sProp 𝕄) : bigSep cells Φ = bigSep Finset.univ fun c : Dev nD => bigSep Finset.univ fun i : CI => Φ (cell c i) := by
    unfold cells; rw [bigSep_map, bigSep_univ_prod]; rfl
  have hT : bigSep tokens (fun x => (dutyTok ER x.1 x.2.1 x.2.2 : sProp 𝕄)) = bigSep Finset.univ fun c : Dev nD => minted c := by
    unfold tokens; rw [bigSep_map, bigSep_univ_prod]
    refine bigSep_congr fun c _ => ?_
    rw [BI.bigSep_univ_sum, bigSep_univ_prod, bigSep_flags]
    rfl
  iintro HX
  imod (Rounds.fund ER (Rd A) cells tokens) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold deal; simp only [bigSep_sep']
  isplitl [Hst]; · iexact Hst
  isplitl [Hat]; · iexact Hat
  isplitl [Hr]; · iexact Hr
  iexact Htok

abbrev own0 (c : Dev nD) : sProp 𝕄 :=
  Pipeline.ownSems0 (Ix := Unit) (Name := ℕ) (U := UU) (Lvl := ℕ) (Val := Elt F) (τ := τ) osem c

omit [FloatOps F] in
theorem unscoped_eq (c : Dev nD) : (unscopedSems0 c : sProp 𝕄) = semVal (cell c bar) 0 := by
  unfold unscopedSems0; rw [bigSep_eq_bigSepL_of_eq [SemLoc.reg barSem] (by decide +kernel) (by decide)]; rfl

theorem sems_eq (c : Dev nD) : (sems0 c : sProp 𝕄) = iprop(unscopedSems0 c ∗ own0 c) := by
  unfold sems0 own0 Pipeline.ownSems0
  rw [bigSep_cells (fun i : CI => (semVal (cell c i) 0 : sProp 𝕄)), unscoped_eq,
    bigSep_univ_prod (fun y : Bool × XI => (semVal ((c : Thread nD τ), csem (some y)) 0 : sProp 𝕄)), bigSep_flags]

/-- Every device's part of the records, its positions and its own cells' tokens. -/
def opened (A : Args F) (c : Dev nD) : sProp 𝕄 :=
  iprop((bigSep Finset.univ fun i : CI => iprop(∃ κ : ℕ, cellInv ER (Rd A) κ (cell c i)))
    ∗ (bigSep Finset.univ fun i : CI => reached ER (cell c i) 0) ∗ (bigSep Finset.univ fun i : CI => atPos ER (cell c i) 0 ∅ 0) ∗ minted c)

theorem open_cells (A : Args F) (c : Dev nD) : iprop(own0 c ∗ unscopedSems0 c ∗ deal A c) ⊢ (|={Set.univ}=> opened A c : sProp 𝕄) := by
  have h : iprop(sems0 c ∗ bigSep Finset.univ fun i : CI => roundState ER (Rd A) (cell c i) 0)
      ⊢ (|={Set.univ}=> bigSep Finset.univ fun i : CI => iprop(∃ κ : ℕ, cellInv ER (Rd A) κ (cell c i)) : sProp 𝕄) := by
    unfold sems0
    rw [← bigSep_sep']
    exact (bigSep_mono fun i _ => (Rounds.body_intro ER (Rd A) (cell c i)).trans inv_alloc).trans (bigSep_fupd _ _)
  rw [sems_eq] at h
  unfold deal opened
  iintro ⟨Ho, Hu, Hst, Hat, Hr, Ht⟩
  imod (h) $$ [Ho Hu Hst] with HI
  · isplitl [Ho Hu]
    · isplitl [Hu]; · iexact Hu
      iexact Ho
    iexact Hst
  imodintro
  isplitl [HI]; · iexact HI
  isplitl [Hr]; · iexact Hr
  isplitl [Hat]; · iexact Hat
  iexact Ht

omit [FloatOps F] in
theorem minted_dealt : iprop((bigSep Finset.univ fun c : Dev nD => bigSep Finset.univ fun i : CI => atPos ER (cell c i) 0 ∅ 0)
    ∗ bigSep Finset.univ fun c : Dev nD => minted c) ⊢ (bigSep Finset.univ fun c : Dev nD => dealt c : sProp 𝕄) := by
  have h1 := turned (F := F) id Fin.revPerm (fun c k => (dutyTok ER (cell c bar) 0 k : sProp 𝕄))
  have h2 := turned (F := F) (fun x : XI => x.2.2.2) flip (fun c x => (dutyTok ER (cell c (rcv x)) 0 0 : sProp 𝕄))
  unfold minted dealt pays
  simp only [bigSep_sep']
  rw [← h1, ← h2]
  iintro ⟨Ha, H1, H2, H3⟩
  isplitl [H1]; · iexact H1
  isplitl [H2 H3]
  · isplitl [H2]; · iexact H2
    iexact H3
  iexact Ha

/-- What the step over all devices makes of it. -/
def shared (A : Args F) (c : Dev nD) : sProp 𝕄 :=
  iprop((∃ K : Dev nD × CI → ℕ, (bigSep Finset.univ fun ci : Dev nD × CI => cellInv ER (Rd A) (K ci) (cell ci.1 ci.2))
    ∗ bigSep Finset.univ fun ci : Dev nD × CI => reached ER (cell ci.1 ci.2) 0) ∗ dealt c)

theorem share_one (A : Args F) (K : Dev nD × CI → ℕ) :
    iprop(((bigSep Finset.univ fun ci : Dev nD × CI => cellInv ER (Rd A) (K ci) (cell ci.1 ci.2))
      ∗ bigSep Finset.univ fun ci : Dev nD × CI => reached ER (cell ci.1 ci.2) 0) ∗ bigSep Finset.univ fun c : Dev nD => dealt c)
      ⊢ (bigSep Finset.univ (shared A) : sProp 𝕄) := by
  refine (sep_mono_left (BI.bigSep_of_persistent (Finset.univ : Finset (Dev nD)) _)).trans ?_
  rw [← bigSep_sep']
  exact bigSep_mono fun c _ => sep_mono_left (exists_intro (Φ := fun K : Dev nD × CI → ℕ =>
    iprop((bigSep Finset.univ fun ci : Dev nD × CI => cellInv ER (Rd A) (K ci) (cell ci.1 ci.2))
      ∗ bigSep Finset.univ fun ci : Dev nD × CI => (reached ER (cell ci.1 ci.2) 0 : sProp 𝕄))) K)

theorem share_all (A : Args F) : (bigSep Finset.univ fun c : Dev nD => (opened A c : sProp 𝕄)) ⊢ bigSep Finset.univ (shared A) := by
  unfold opened
  rw [bigSep_sep', bigSep_sep', bigSep_sep', ← bigSep_univ_prod (fun ci : Dev nD × CI => iprop(∃ κ : ℕ, (cellInv ER (Rd A) κ (cell ci.1 ci.2) : sProp 𝕄))),
    ← bigSep_univ_prod (fun ci : Dev nD × CI => (reached ER (cell ci.1 ci.2) 0 : sProp 𝕄))]
  haveI : DecidableEq (Dev nD × CI) := Classical.decEq _
  iintro ⟨HI, #HR, Hat, Ht⟩
  ihave HK := (BI.bigSep_exists_pi Finset.univ (fun (ci : Dev nD × CI) (κ : ℕ) => (cellInv ER (Rd A) κ (cell ci.1 ci.2) : sProp 𝕄))) $$ HI
  icases HK with ⟨%K, #HI⟩
  ihave Hd := (minted_dealt (F := F)) $$ [Hat Ht]
  · isplitl [Hat]; · iexact Hat
    iexact Ht
  iapply (share_one A K)
  isplitr
  · isplitl; · iexact HI
    iexact HR
  iexact Hd

/-- The step over all devices. -/
theorem share_step (A : Args F) : (bigSep Finset.univ fun c => iprop(own0 c ∗ unscopedSems0 c ∗ deal A c) : sProp 𝕄)
    ⊢ |={Set.univ}=> bigSep Finset.univ (shared A) :=
  ((bigSep_mono fun c _ => open_cells A c).trans (bigSep_fupd _ _)).trans (BI.fupd_mono (share_all A))

/-! ## The credit at launch -/

theorem due_at (d c : Dev nD) (x y : XI) : due d y (cell c (rcv x)) () = if (d, y) = (peer c x.2.2.2, x.back) then N else 0 := by
  unfold due
  rw [tallyAt_apply]
  refine if_congr ⟨fun h => ?_, fun h => ?_⟩ rfl rfl
  · obtain ⟨e1, e2⟩ := cell_inj h.1
    have e3 : x = y.back := congrArg Prod.snd (Option.some_injective _ e2)
    rw [e1, e3, XI.back_back]
    exact Prod.ext (peer_back d y.2.2.2).symm rfl
  · obtain ⟨rfl, rfl⟩ := Prod.mk.inj h
    refine ⟨?_, rfl⟩
    rw [XI.back_back]
    exact congrArg (fun e => cell e (rcv x)) (peer_back c x.2.2.2).symm

theorem owed_sum (d : Dev nD) (g : GSem nD τ sig) : ∀ l : List XI, owed d l g () = (l.map fun y => due d y g ()).sum
  | [] => rfl
  | y :: l => by
    rw [owed_cons, List.map_cons, List.sum_cons, add_comm (due d y g ()), ← owed_sum d g l]; rfl

theorem due0_once : due0.Nodup := by decide +kernel
theorem due0_every : due0.toFinset = Finset.univ := by decide +kernel

theorem O₀_at (d : Dev nD) (g : GSem nD τ sig) :
    O₀ d g () = owed d due0 g () + dueBar d 2 g () + dueBar d 1 g () + dueBar d 0 g () := rfl

theorem owed_launch (d c : Dev nD) (x : XI) : O₀ d (cell c (rcv x)) () = ∑ y : XI, if (d, y) = (peer c x.2.2.2, x.back) then N else 0 := by
  have hb (k : Fin 3) : dueBar d k (cell c (rcv x)) () = 0 := by
    unfold dueBar; rw [tallyAt_apply]; exact if_neg fun h => absurd (cell_inj (j := bar) h.1).2 (Option.some_ne_none _)
  rw [O₀_at, hb, hb, hb, owed_sum, ← List.sum_toFinset _ due0_once, due0_every, add_zero, add_zero, add_zero]
  refine Finset.sum_congr rfl fun y _ => ?_
  rw [due_at]

theorem owed_launch_bar (d c : Dev nD) : O₀ d (cell c bar) () = ∑ k : Fin 3, if c = peer d k then 1 else 0 := by
  have h0 : owed d due0 (cell c bar) () = 0 := by
    by_contra h
    obtain ⟨x, -, e⟩ := owed_pos (Nat.pos_of_ne_zero h)
    exact absurd (cell_inj (i := bar) e).2 (Option.some_ne_none _).symm
  have hb (k : Fin 3) : dueBar d k (cell c bar) () = if c = peer d k then 1 else 0 := by
    unfold dueBar; rw [tallyAt_apply]
    exact if_congr ⟨fun h => (cell_inj (i := bar) (j := bar) h.1).1, fun h => ⟨by rw [h], rfl⟩⟩ rfl rfl
  rw [O₀_at, h0, hb, hb, hb, Fin.sum_univ_three]
  omega

theorem bar_three : ∀ c : Dev nD, (∑ d : Dev nD, ∑ k : Fin 3, if c = peer d k then 1 else 0) = 3 := by decide +kernel

theorem credit_bar (c : Dev nD) :
    tallyOn (cell c bar) (launchCredit (Pipeline.owing O₀) 0 (cell c bar)) = (tallyAt (cell c bar) () 3 : CellTallies nD τ sig Unit) := by
  unfold tallyAt; refine congrArg _ (Finsupp.ext fun u => ?_); cases u
  rw [Pipeline.launchCredit_owing, Finsupp.single_eq_same, Finset.sum_congr rfl fun d _ => owed_launch_bar d c, bar_three]

theorem credit_rcv (c : Dev nD) (x : XI) :
    tallyOn (cell c (rcv x)) (launchCredit (Pipeline.owing O₀) 0 (cell c (rcv x))) = (tallyAt (cell c (rcv x)) () N : CellTallies nD τ sig Unit) := by
  unfold tallyAt; refine congrArg _ (Finsupp.ext fun u => ?_); cases u
  rw [Pipeline.launchCredit_owing, Finsupp.single_eq_same, Finset.sum_congr rfl fun d _ => owed_launch d c x,
    ← Fintype.sum_prod_type' (f := fun d y => if (d, y) = (peer c x.2.2.2, x.back) then N else 0)]
  exact (Finset.sum_ite_eq' Finset.univ (peer c x.2.2.2, x.back) fun _ => N).trans (if_pos (Finset.mem_univ _))

theorem credits_intro (c : Dev nD) : (Pipeline.launchCred O₀ c : sProp 𝕄) ⊢ credits c := by
  have h := BI.bigSep_subset (Finset.subset_univ (Finset.univ.map ⟨csem, csem_inj⟩))
    (Φ := fun sm => (cred (tallyOn ((c : Thread nD τ), sm) (launchCredit (Pipeline.owing O₀) 0 ((c : Thread nD τ), sm))) : sProp 𝕄))
  refine (show (Pipeline.launchCred O₀ c : sProp 𝕄) ⊢ _ from h).trans ?_
  rw [bigSep_map, bigSep_cells (fun i : CI => _)]
  unfold credits
  rw [show (bigSep Finset.univ fun x : XI => (cred (tallyAt (cell c (rcv x)) () N) : sProp 𝕄))
      = bigSep Finset.univ fun x : XI => cred (tallyOn (cell c (rcv x)) (launchCredit (Pipeline.owing O₀) 0 (cell c (rcv x)))) from
      bigSep_congr fun x _ => by rw [credit_rcv], ← credit_bar]
  iintro ⟨H1, -, H2⟩
  isplitl [H1]; · iexact H1
  iexact H2

/-! ## The run -/

section Run

variable (m : (ℓ : Loc nD τ sig) → Buf (Elt F) ℓ) (ρ : Dev nD → PrngReg)

theorem share_eq (c : Dev nD) (w : Fin cfg0.W) : (dats m 0 c).share w = fullShare := by unfold Dat.share; split <;> rfl

theorem begin_intro (c : Dev nD) :
    iprop(Pipeline.unscopedRestP Pipeline.Prefetch.none cfg0.spec c (fun b => m ((c : Thread nD τ).loc b)) ∗ levAts Ls lv
        ∗ Pipeline.launchCred O₀ c ∗ prngReg c (ρ c) ∗ shared (argsOf m) c)
      ⊢ (|={Set.univ}=> iprop(begin m c ∗ emp) : sProp 𝕄) := by
  unfold shared begin
  iintro ⟨-, #HL, Hc, -, ⟨%K, #HI, #HR⟩, Hd⟩
  ihave Hc := (credits_intro (F := F) c) $$ Hc
  imodintro
  isplitl
  · isplitr
    · iexists K
      unfold recs
      isplitl; · iexact HI
      isplitl; · iexact HR
      iexact HL
    isplitl [Hd]; · iexact Hd
    iexact Hc
  · iempintro

omit [FloatOps F] in
theorem buffers_eq (c : Dev nD) : (Pipeline.scopedRest cfg0.spec c : sProp 𝕄) = buffers c := Gen.scopedRest0_eq c

theorem enter (c : Dev nD) :
    iprop(begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, buffers_eq]
  unfold Φ₀
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, buffers_eq]
  unfold Φ₁
  rw [sems_eq]
  iintro ⟨⟨Hu, Ho⟩, Hr⟩
  isplitl [Hu]; · iexact Hu
  isplitl [Ho]; · iexact Ho
  iexact Hr

theorem waits (c : Dev nD) : (levAts Ls lv : sProp 𝕄) ⊢ Pipeline.cellsWaits cfgs (dats m) () 0 c :=
  Pipeline.cellsWaits_intro cfgs (dats m) () 0 c fun w s t =>
    mayWait_stage c _ (which_stage w s) _ (by
      rcases t with ⟨_ | _, ht⟩
      · exact Or.inl rfl
      · exact Or.inr rfl)

set_option maxRecDepth 100000 in
/-- From any memory with every semaphore at zero, the four devices run to their ends, and every window's array then
    holds what the exchange leaves in it, every semaphore at zero again. -/
theorem run_arrays : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () Gen.cellOf_inj (0 : Fin 1)
    Gen.winFacts0.to₀ ownSemFacts (Pipeline.PreFacts.none _) EP defs₀ 𝒱₀ m ρ main
    (hmain := fun _ => rfl)
    (hbody := fun c => obligation m c) (hne := fun w => by fin_cases w <;> exact Nat.succ_pos _) (harr := Gen.arr_whole0) (hstage := Gen.stage_whole0)
    (hshare := share_eq m)
    (hdistinct := Gen.winFacts0.arr_inj)
    (O₀ := O₀) (howed₀ := fun _ => rfl) (howedN := fun _ => rfl)
    (L := Ls) (lv := lv) (hL := Ls_of_ne) (hwaits := waits m)
    (G := deal (argsOf m)) (G' := shared (argsOf m)) (u₀ := u₀)
    (hu₀ := by
      unfold u₀
      iintro Hu
      ihave H := (ownU_pair _ _) $$ Hu
      icases H with ⟨HP, HX⟩
      imod (fund_all (argsOf m)) $$ HX with HG
      imodintro
      isplitl [HP] <;> iassumption)
    (hglob := share_step (argsOf m))
    (hA := fun _ _ => rfl) (hpf := fun _ k => k.elim0)
    (X := begin m) (Y := fun c => unscopedSems0 c) (Z := fun _ => iprop(emp))
    (hX := begin_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.Mlp

end
-- ==== Proof.Result.lean ====
/- The run's result in the program's own arrays: every argument as it was, the result what every device computes. -/
module

public import proofs.«01_k».proof.Proof.Launch

@[expose] public section

noncomputable section

namespace Cert.Mlp

open Cert.KernelIdeal
open Idealize.ShloMosaic Idealize.ShloMosaic.TcCoe
open Idealize.SL.Sem

variable {F : FTy → Type} [FloatOps F]

variable (m : (ℓ : Loc nD τ sig) → Buf (Elt F) ℓ) (ρ : Dev nD → PrngReg) (c : Dev nD)

/-! ## The windows are whole arrays -/

theorem origin : ∀ (w : Fin cfg0.W) (a : Fin (cfg0.win w).shape.rank),
    (cfg0.win w).kind.off ((cfg0.win w).index Gen.t0_0 a) ((cfg0.win w).size a) = 0 := by decide +kernel

/-! What device `c` reads as its arguments is what its argument arrays hold. -/

theorem arg0_eq : (Gen.iblk m c 0 t₀ : Vec F S512x256 .bf16) = m ((c.tc : Thread nD τ).loc main_arg0) :=
  Memref.read_access_unit_zero (Elt F) main_arg0 (funext (origin 0)) _ _
theorem arg1_eq : (Gen.iblk m c 1 t₀ : Vec F S256x512 .bf16) = m ((c.tc : Thread nD τ).loc main_arg1) :=
  Memref.read_access_unit_zero (Elt F) main_arg1 (funext (origin 1)) _ _
theorem arg2_eq : (Gen.iblk m c 2 t₀ : Vec F S512x256 .bf16) = m ((c.tc : Thread nD τ).loc main_arg2) :=
  Memref.read_access_unit_zero (Elt F) main_arg2 (funext (origin 2)) _ _
theorem arg3_eq : (Gen.iblk m c 3 t₀ : Vec F S256x512 .bf16) = m ((c.tc : Thread nD τ).loc main_arg3) :=
  Memref.read_access_unit_zero (Elt F) main_arg3 (funext (origin 3)) _ _
theorem arg4_eq : (Gen.iblk m c 4 t₀ : Vec F S512x256 .bf16) = m ((c.tc : Thread nD τ).loc main_arg4) :=
  Memref.read_access_unit_zero (Elt F) main_arg4 (funext (origin 4)) _ _
theorem arg5_eq : (Gen.iblk m c 5 t₀ : Vec F S256x512 .bf16) = m ((c.tc : Thread nD τ).loc main_arg5) :=
  Memref.read_access_unit_zero (Elt F) main_arg5 (funext (origin 5)) _ _
theorem arg6_eq : (Gen.iblk m c 6 t₀ : Vec F S512x256 .bf16) = m ((c.tc : Thread nD τ).loc main_arg6) :=
  Memref.read_access_unit_zero (Elt F) main_arg6 (funext (origin 6)) _ _

theorem flushed_eq (t : Fin cfg0.N) :
    (dats m 0 c).flushed 7 t = ((cfg0.win 7).blk t).view.read (Elt F) (outArr (argsOf m) c) := by
  obtain rfl := Gen.fin_N0 t
  have ha : (dats m 0 c).after 7 Gen.t0_0 = outArr (argsOf m) c := by dsimp only [dats]
  unfold Pipeline.Dat.flushed
  rw [ha]
  generalize outArr (argsOf m) c = G
  exact (Memref.read_access_unit_zero (Elt F) main_v1 (funext (origin 7)) _ G).symm

theorem cover (i : S512x256.Idx) : ∃ t : Fin cfg0.N, (cfg0.win 7).flush t = true ∧ i ∈ ((cfg0.win 7).blk t).view.set := by
  refine ⟨Gen.t0_0, Gen.flush0_7 _, ?_⟩
  show i ∈ ((View.whole main_v1).slice (win0_7.rect Gen.t0_0)).set
  rw [View.set_slice_whole, Rect.mem_set_unit]
  have e : ∀ a, win0_7.xsize (grid0.coords Gen.t0_0) a = S512x256.size a := by decide +kernel
  intro a
  rw [show win0_7.kind.off (win0_7.index Gen.t0_0 a) (win0_7.size a) = 0 from origin 7 a, e a, Nat.zero_add]
  exact ⟨Nat.zero_le _, (i a).isLt⟩

theorem result_eq : (dats m 0 c).arrAt 7 cfg0.N = outArr (argsOf m) c :=
  (dats m 0 c).arrAt_eq_of_cover 7 (outArr (argsOf m) c) (fun t _ => flushed_eq m c t) cover

/-- Device `c`'s arguments are, in memory `r`, as in `m`. -/
abbrev Kept (r : MemSt nD τ sig (Elt F)) (c : Dev nD) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)
    ∧ r.mem ((c.tc : Thread nD τ).loc main_arg6) = m ((c.tc : Thread nD τ).loc main_arg6)

/-- From any memory with every semaphore at zero, the four devices run to their ends: each one's result is the block
    it computes, its arguments are as they were, and every semaphore is at zero. -/
theorem run_main : θ_run defs (onTc (τ := τ) (main (F := F))) ⟨m, fun _ => 0, ρ⟩ (fun r =>
    (∀ c : Dev nD, r.2.mem ((c.tc : Thread nD τ).loc main_v1) = outArr (argsOf m) c ∧ Kept m r.2 c) ∧ r.2.sem = fun _ => 0) :=
  (θ_run defs _ _).mono (fun r h => ⟨fun c => by
    have hin (w : Fin cfg0.W) (hw : (cfg0.win w).isOut = false) := (h.1 c w).trans ((dats m 0 c).arrAt_in w hw _)
    exact ⟨(h.1 c 7).trans (result_eq m c), hin 0 rfl, hin 1 rfl, hin 2 rfl, hin 3 rfl, hin 4 rfl, hin 5 rfl, hin 6 rfl⟩,
    h.2⟩) (run_arrays m ρ)

/-- The same without the result. -/
theorem run_kept : θ_run defs (onTc (τ := τ) (main (F := F))) ⟨m, fun _ => 0, ρ⟩ (fun r =>
    (∀ c : Dev nD, Kept m r.2 c) ∧ r.2.sem = fun _ => 0) :=
  (θ_run defs _ _).mono (fun _ h => ⟨fun c => (h.1 c).2, h.2⟩) (run_main m ρ)

end Cert.Mlp

end
-- ==== Proof.Same.lean ====
/- The kernel over bits and the kernel over the reals are one text: the run of the one is the run of the other. -/
module

public import proofs.«01_k».proof.Proof.Result
public import proofs.«01_k».proof.Proof.Gen.Kernel

@[expose] public section

noncomputable section

namespace Cert.Mlp

open Idealize.ShloMosaic Idealize.SL.Sem

attribute [local instance] Cert.Kernel.Gen.facts Cert.KernelIdeal.Gen.facts

variable {F : FTy → Type} [FloatOps F]

set_option maxRecDepth 100000 in
theorem body_same : Cert.Kernel.defs₀ (F := F) = Cert.KernelIdeal.defs₀ (F := F) :=
  congrArg Defs.onTc (funext fun l => funext fun a => by
    obtain ⟨l, hl⟩ := l
    obtain rfl : l = 0 := Nat.lt_one_iff.1 hl
    rfl)

set_option maxRecDepth 100000 in
theorem defs_same : Cert.Kernel.defs (F := F) = Cert.KernelIdeal.defs (F := F) :=
  congrArg (Pipeline.defs Cert.KernelIdeal.pcfgs) body_same

/-- `run_kept` for the kernel as printed. -/
theorem run_kept_same (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, Kept (F := F) m r.2 c) ∧ r.2.sem = fun _ => 0) := by
  rw [defs_same]
  exact run_kept m ρ

end Cert.Mlp

end
-- ==== Proof.Product.lean ====
/- The partial products of the four devices are the blocks of one product: over the reals, the sum over the devices of
   a product over a quarter of the columns is the product over all of them. -/
module

public import proofs.«01_k».proof.Proof.Output
public import Idealize.ShloMosaic.Lib.MatmulPlain
public import Idealize.ShloMosaic.Lib.ValueIdx
public import Idealize.ShloMosaic.Lib.Pipeline.Value

@[expose] public section

noncomputable section

namespace Cert.Mlp

open Cert.KernelIdeal
open Idealize.ShloMosaic Idealize.ShloMosaic.ValueIdx
open scoped BigOperators

/-! ## Matrices of extended reals -/

/-- The product of two matrices. -/
def mul {a b c : ℕ} (X : Fin a → Fin b → EReal) (Y : Fin b → Fin c → EReal) : Fin a → Fin c → EReal :=
  fun i j => ∑ k, X i k * Y k j
/-- A matrix with its negative entries put to zero. -/
def pos {a b : ℕ} (X : Fin a → Fin b → EReal) : Fin a → Fin b → EReal := fun i j => max (X i j) 0

/-- Row `r` of block `s` of device `t`'s rows. -/
def row (t : Dev nD) (s : Fin 4) (r : Fin 32) : Fin 512 :=
  ⟨128 * t.val + 32 * s.val + r.val, by have : t.val < 4 := t.isLt; omega⟩
/-- Column `k` of device `d`'s columns. -/
def col (d : Dev nD) (k : Fin 256) : Fin 1024 := ⟨256 * d.val + k.val, by have : d.val < 4 := d.isLt; omega⟩

/-- A sum over all columns, device by device. -/
theorem sum_cols (f : Fin 1024 → EReal) : ∑ d : Dev nD, ∑ k : Fin 256, f (col d k) = ∑ n, f n := by
  rw [← Fintype.sum_prod_type']
  refine Fintype.sum_equiv (finProdFinEquiv (m := 4) (n := 256)) _ _ fun x => congrArg f (Fin.ext ?_)
  show 256 * x.1.val + x.2.val = x.2.val + 256 * x.1.val
  exact Nat.add_comm _ _

theorem peers : ∀ c : Dev nD, peer c 0 = (c + 1 : Fin 4) ∧ peer c 1 = (c + 2 : Fin 4) ∧ peer c 2 = (c + 3 : Fin 4) := by
  decide +kernel

/-- A device and its three peers are all the devices. -/
theorem sum_ring (c : Dev nD) (g : Dev nD → EReal) : g c + g (peer c 0) + g (peer c 1) + g (peer c 2) = ∑ d, g d := by
  obtain ⟨h0, h1, h2⟩ := peers c
  rw [h0, h1, h2, ← Equiv.sum_comp (Equiv.addLeft (c : Fin 4)) g]
  refine Eq.trans ?_ (Fin.sum_univ_four _).symm
  show _ = g ((c : Fin 4) + 0) + _ + _ + _
  rw [add_zero]
  rfl

/-! ## The steps over the reals -/

theorem inDot_apply (w : Vec Ideal S256x512 .bf16) (x : Vec Ideal S32x256 .bf16) (r : Fin 32) (j : Fin 512) :
    inDot w x (ix2 r j) = ∑ k : Fin 256, x (ix2 r k) * w (ix2 k j) := by
  unfold inDot
  rw [shapeCast_self, shapeCast_self]
  refine (Ideal.matmul_plain_apply (M := 32) (K := 256) (N := 512) none x w _ r j).trans ?_
  show Ideal.ofBits .f32 0x00000000#32 + _ = _
  rw [Ideal.ofBits_zero_f32, zero_add]

theorem outDot_apply (w : Vec Ideal S512x256 .bf16) (h : FVec Ideal S32x512 .bf16) (r : Fin 32) (j : Fin 256) :
    outDot w h (ix2 r j) = ∑ k : Fin 512, h (ix2 r k) * w (ix2 k j) := by
  unfold outDot
  rw [shapeCast_self]
  refine (Ideal.matmul_plain_apply (M := 32) (K := 512) (N := 256) none h w _ r j).trans ?_
  show Ideal.ofBits .f32 0x00000000#32 + _ = _
  rw [Ideal.ofBits_zero_f32, zero_add]

theorem nextDot_eq (w : Vec Ideal S512x256 .bf16) (w' : Vec Ideal S256x512 .bf16) (h : FVec Ideal S32x512 .bf16) :
    nextDot w w' h = inDot w' (outDot w h) := by
  unfold nextDot inDot
  rw [shapeCast_self (s := S32x256) (α := EReal) (outDot w h)]
  rfl

theorem hidden_apply (l : Lay Ideal) (c : Dev nD) (s : Fin 4) (i : S32x512.Idx) :
    hidden l c s i = max (l.own c s i + l.part (peer c 0) (Fin.rev 0) s i + l.part (peer c 1) (Fin.rev 1) s i
      + l.part (peer c 2) (Fin.rev 2) s i) 0 := by
  unfold hidden plus
  rw [ofPiece_asPiece, ofPiece_asPiece, ofPiece_asPiece]
  unfold act ofOwn
  rw [shapeCast_shapeCast]
  show max _ (Ideal.ofBits .f32 0x00000000#32) = _
  rw [Ideal.ofBits_zero_f32]
  rfl

/-! ## A layer -/

/-- The partial products are those of `X` and `W`: each device's over its own columns. -/
structure Holds (l : Lay Ideal) (X : Fin 512 → Fin 1024 → EReal) (W : Fin 1024 → Fin 512 → EReal) : Prop where
  own (c : Dev nD) (s : Fin 4) (r : Fin 32) (j : Fin 512) :
    l.own c s (ix2 r j) = ∑ k, X (row c s r) (col c k) * W (col c k) j
  part (c : Dev nD) (k : Fin 3) (s : Fin 4) (r : Fin 32) (j : Fin 512) :
    l.part c k s (ix2 r j) = ∑ q, X (row (peer c k) s r) (col c q) * W (col c q) j

/-- Then every activation is the positive part of the product. -/
theorem Holds.hidden {l : Lay Ideal} {X W} (h : Holds l X W) (c : Dev nD) (s : Fin 4) (r : Fin 32) (j : Fin 512) :
    hidden l c s (ix2 r j) = pos (mul X W) (row c s r) j := by
  rw [hidden_apply, h.own, h.part, h.part, h.part, peer_back, peer_back, peer_back,
    sum_ring c fun d => ∑ k, X (row c s r) (col d k) * W (col d k) j, sum_cols fun n => X (row c s r) n * W n j]
  rfl

/-- An activation times a quarter of the columns of the layer's second matrix. -/
theorem Holds.outDot {l : Lay Ideal} {X W} (h : Holds l X W) {w : Vec Ideal S512x256 .bf16} {V : Fin 512 → Fin 1024 → EReal}
    {d : Dev nD} (hw : ∀ k j, w (ix2 k j) = V k (col d j)) (c : Dev nD) (s : Fin 4) (r : Fin 32) (j : Fin 256) :
    outDot w (Mlp.hidden l c s) (ix2 r j) = mul (pos (mul X W)) V (row c s r) (col d j) := by
  rw [outDot_apply]
  exact Finset.sum_congr rfl fun k _ => by rw [h.hidden, hw]

/-- The arguments are cut as the claim says: `x` and the second matrices by columns, the first matrices by rows. -/
structure Cut (A : Args Ideal) (X : Fin 512 → Fin 1024 → EReal) (Wi : Fin 3 → Fin 1024 → Fin 512 → EReal)
    (Wo : Fin 3 → Fin 512 → Fin 1024 → EReal) : Prop where
  x (d : Dev nD) (i : Fin 512) (k : Fin 256) : A.x d (ix2 i k) = X i (col d k)
  wi (L : Fin 3) (d : Dev nD) (k : Fin 256) (j : Fin 512) : A.wi L d (ix2 k j) = Wi L (col d k) j
  wo (L : Fin 3) (d : Dev nD) (k : Fin 512) (j : Fin 256) : A.wo L d (ix2 k j) = Wo L k (col d j)

/-- Block `s` of device `t`'s rows, read. -/
theorem read_rows (x : Vec Ideal S512x256 .bf16) (t : Dev nD) (s : Fin 4) (off : Fin 2 → Nat)
    (hoff : ∀ a, off a + S32x256.size a ≤ S512x256.size a) (ho : off = ![128 * t.val + 32 * s.val, 0]) (r : Fin 32) (k : Fin 256) :
    ((Memref.whole cc0_stg0_0 : Memref sig .tc .vmem S512x256 .bf16).access (Rect.unit (s := S512x256) off S32x256.size hoff)).read
      (Elt Ideal) x (ix2 r k) = x (ix2 (row t s r) k) := by
  subst ho
  show x _ = x _
  refine congrArg x (funext fun a => Fin.ext ?_)
  match a with
  | ⟨0, _⟩ =>
    show 128 * t.val + 32 * s.val + 1 * r.val = 128 * t.val + 32 * s.val + r.val
    omega
  | ⟨1, _⟩ =>
    show 0 + 1 * k.val = k.val
    omega

theorem rowsMine_apply (A : Args Ideal) (c : Dev nD) (s : Fin 4) (r : Fin 32) (k : Fin 256) :
    rowsMine A c s (ix2 r k) = A.x c (ix2 (row c s r) k) := read_rows _ _ _ _ _ (Gen.k0_off2_eq c s) r k

theorem rowsOf_apply (A : Args Ideal) (c : Dev nD) (k : Fin 3) (s : Fin 4) (r : Fin 32) (q : Fin 256) :
    rowsOf A c k s (ix2 r q) = A.x c (ix2 (row (peer c k) s r) q) := read_rows _ _ _ _ _ (rowsAt_off c k s) r q

theorem holds_first {A : Args Ideal} {X Wi Wo} (h : Cut A X Wi Wo) : Holds (firstLay A) X (Wi 0) where
  own c s r j := (inDot_apply _ _ r j).trans <| Finset.sum_congr rfl fun k _ => by rw [rowsMine_apply, h.x, h.wi]
  part c k s r j := (inDot_apply _ _ r j).trans <| Finset.sum_congr rfl fun q _ => by rw [rowsOf_apply, h.x, h.wi]

theorem holds_next {A : Args Ideal} {X Wi Wo} (h : Cut A X Wi Wo) (L L' : Fin 3) {l : Lay Ideal} {Y}
    (hl : Holds l Y (Wi L)) : Holds (nextLay A L L' l) (mul (pos (mul Y (Wi L))) (Wo L)) (Wi L') where
  own c s r j := (congrFun (nextDot_eq _ _ _) _).trans <| (inDot_apply _ _ r j).trans <|
    Finset.sum_congr rfl fun k _ => by rw [hl.outDot (h.wo L c), h.wi]
  part c k s r j := (congrFun (nextDot_eq _ _ _) _).trans <| (inDot_apply _ _ r j).trans <|
    Finset.sum_congr rfl fun q _ => by rw [hl.outDot (h.wo L c), h.wi]

/-- A layer of the whole: a product, its positive part, a product. -/
def stage (X : Fin 512 → Fin 1024 → EReal) (W : Fin 1024 → Fin 512 → EReal) (V : Fin 512 → Fin 1024 → EReal) :
    Fin 512 → Fin 1024 → EReal := mul (pos (mul X W)) V

/-- The output of device `c` is its quarter of the columns of the three layers' result. -/
theorem outArr_apply {A : Args Ideal} {X Wi Wo} (h : Cut A X Wi Wo) (c : Dev nD) (i : Fin 512) (j : Fin 256) :
    outArr A c (ix2 i j) = stage (stage (stage X (Wi 0) (Wo 0)) (Wi 1) (Wo 1)) (Wi 2) (Wo 2) i (col c j) := by
  have h2 : Holds (lay A 2) (stage (stage X (Wi 0) (Wo 0)) (Wi 1) (Wo 1)) (Wi 2) :=
    holds_next h 1 2 (holds_next h 0 1 (holds_first h))
  have e : row ⟨i.val / 128, by show _ < 4; omega⟩ ⟨i.val % 128 / 32, by omega⟩ ⟨i.val % 32, by omega⟩ = i :=
    Fin.ext (by show 128 * (i.val / 128) + 32 * (i.val % 128 / 32) + i.val % 32 = i.val; omega)
  refine Eq.trans ?_ ((h2.outDot (h.wo 2 c) ⟨i.val / 128, by show _ < 4; omega⟩ ⟨i.val % 128 / 32, by omega⟩
    ⟨i.val % 32, by omega⟩ j).trans (by rw [e]; rfl))
  unfold outArr outBlk
  refine congrArg (outDot _ _) (funext fun a => ?_)
  match a with
  | ⟨0, _⟩ => rfl
  | ⟨1, _⟩ => rfl

end Cert.Mlp

end
-- ==== Proof.Value.lean ====
/- Over the reals the kernel's result is the reference's, cut by columns over the devices. -/
module

public import proofs.«01_k».proof.Proof.Product
public import proofs.«01_k».proof.Proof.Result
public import proofs.«01_k».proof.Proof.Gen.ReferenceIdeal.Run
public import Idealize.ShloMosaic.Lib.StackMember
public import Idealize.ShloMosaic.Lib.Layout

@[expose] public section

noncomputable section

namespace Cert.Mlp

open Idealize.ShloMosaic Idealize.ShloMosaic.ValueIdx
open Cert.ReferenceIdeal (dot_S512x1024_S1024x512_S512x512_1_0_0_1_n_n dot_S512x512_S512x1024_S512x1024_1_0_0_1_n_n)

/-! ## Blocks -/

/-- A block of columns of a matrix. -/
theorem block_cols (v : (⟨2, ![512, 1024]⟩ : Shape).Idx → EReal) (h) (d : Fin 4) (i : Fin 512) (k : Fin 256) :
    Layout.block ⟨2, ![512, 256]⟩ ⟨2, ![512, 1024]⟩ 1 4 d v h (ix2 i k) = v (ix2 i (col d k)) :=
  congrArg v (funext fun a => Fin.ext (match a with
    | ⟨0, _⟩ => rfl
    | ⟨1, _⟩ => congrArg (· + k.val) (Nat.mul_comm d.val 256)))
/-- A block of rows. -/
theorem block_rows (v : (⟨2, ![1024, 512]⟩ : Shape).Idx → EReal) (h) (d : Fin 4) (k : Fin 256) (j : Fin 512) :
    Layout.block ⟨2, ![256, 512]⟩ ⟨2, ![1024, 512]⟩ 0 4 d v h (ix2 k j) = v (ix2 (col d k) j) :=
  congrArg v (funext fun a => Fin.ext (match a with
    | ⟨0, _⟩ => congrArg (· + k.val) (Nat.mul_comm d.val 256)
    | ⟨1, _⟩ => rfl))

/-! ## The reference -/

/-- An array of two axes as a matrix. -/
def mat {a b : ℕ} {φ : FTy} (v : FVec Ideal ⟨2, ![a, b]⟩ φ) : Fin a → Fin b → EReal := fun i j => v (ix2 i j)

/-- A layer as the reference computes it. -/
def refStage (x : FVec Ideal ⟨2, ![512, 1024]⟩ .f32) (w : FVec Ideal ⟨2, ![1024, 512]⟩ .f32)
    (v : FVec Ideal ⟨2, ![512, 1024]⟩ .f32) : FVec Ideal ⟨2, ![512, 1024]⟩ .f32 :=
  Host.dotGeneral dot_S512x512_S512x1024_S512x1024_1_0_0_1_n_n none
    (maximumf (Host.dotGeneral dot_S512x1024_S1024x512_S512x512_1_0_0_1_n_n none x w)
      (broadcastInDim ⟨2, ![512, 512]⟩ ![] Cert.ReferenceIdeal.Gen.bcast_S_S512x512 (constant ⟨0, ![]⟩ .f32 0x00000000#32))) v

theorem refStage_mat (x : FVec Ideal ⟨2, ![512, 1024]⟩ .f32) (w : FVec Ideal ⟨2, ![1024, 512]⟩ .f32)
    (v : FVec Ideal ⟨2, ![512, 1024]⟩ .f32) : mat (refStage x w v) = stage (mat x) (mat w) (mat v) := by
  funext i j
  refine (StackMember.dotGeneral_plain_apply (m := 512) (k := 512) (n := 1024) none _ _ i j).trans ?_
  refine Finset.sum_congr rfl fun q _ => congrArg (· * mat v q j) ?_
  show max _ (Ideal.ofBits .f32 0x00000000#32) = _
  rw [Ideal.ofBits_zero_f32]
  exact congrArg (max · 0) (StackMember.dotGeneral_plain_apply (m := 512) (k := 1024) (n := 512) none x w i q)

/-! ## The kernel's arguments -/

section Args

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- An array of the reference's memory. -/
abbrev atRef (b : Ref Cert.ReferenceIdeal.sig .tc) :=
  m' (((0 : Dev Cert.ReferenceIdeal.nD).tc : Thread Cert.ReferenceIdeal.nD Cert.ReferenceIdeal.τ).loc b)

/-- The devices' arguments are the blocks of the reference's. -/
abbrev Agree : Prop := ∀ c : Dev Cert.KernelIdeal.nD,
    m ((c.tc : Thread Cert.KernelIdeal.nD Cert.KernelIdeal.τ).loc Cert.KernelIdeal.main_arg0) = Layout.block ⟨2, ![512, 256]⟩ ⟨2, ![512, 1024]⟩ 1 4 c (atRef m' Cert.ReferenceIdeal.main_arg0)
      ∧ m ((c.tc : Thread Cert.KernelIdeal.nD Cert.KernelIdeal.τ).loc Cert.KernelIdeal.main_arg1) = Layout.block ⟨2, ![256, 512]⟩ ⟨2, ![1024, 512]⟩ 0 4 c (atRef m' Cert.ReferenceIdeal.main_arg1)
      ∧ m ((c.tc : Thread Cert.KernelIdeal.nD Cert.KernelIdeal.τ).loc Cert.KernelIdeal.main_arg2) = Layout.block ⟨2, ![512, 256]⟩ ⟨2, ![512, 1024]⟩ 1 4 c (atRef m' Cert.ReferenceIdeal.main_arg2)
      ∧ m ((c.tc : Thread Cert.KernelIdeal.nD Cert.KernelIdeal.τ).loc Cert.KernelIdeal.main_arg3) = Layout.block ⟨2, ![256, 512]⟩ ⟨2, ![1024, 512]⟩ 0 4 c (atRef m' Cert.ReferenceIdeal.main_arg3)
      ∧ m ((c.tc : Thread Cert.KernelIdeal.nD Cert.KernelIdeal.τ).loc Cert.KernelIdeal.main_arg4) = Layout.block ⟨2, ![512, 256]⟩ ⟨2, ![512, 1024]⟩ 1 4 c (atRef m' Cert.ReferenceIdeal.main_arg4)
      ∧ m ((c.tc : Thread Cert.KernelIdeal.nD Cert.KernelIdeal.τ).loc Cert.KernelIdeal.main_arg5) = Layout.block ⟨2, ![256, 512]⟩ ⟨2, ![1024, 512]⟩ 0 4 c (atRef m' Cert.ReferenceIdeal.main_arg5)
      ∧ m ((c.tc : Thread Cert.KernelIdeal.nD Cert.KernelIdeal.τ).loc Cert.KernelIdeal.main_arg6) = Layout.block ⟨2, ![512, 256]⟩ ⟨2, ![512, 1024]⟩ 1 4 c (atRef m' Cert.ReferenceIdeal.main_arg6)

/-- The reference's first matrices. -/
def refWi : Fin 3 → FVec Ideal ⟨2, ![1024, 512]⟩ .f32
  | 0 => atRef m' Cert.ReferenceIdeal.main_arg1
  | 1 => atRef m' Cert.ReferenceIdeal.main_arg3
  | 2 => atRef m' Cert.ReferenceIdeal.main_arg5
/-- The reference's second matrices. -/
def refWo : Fin 3 → FVec Ideal ⟨2, ![512, 1024]⟩ .f32
  | 0 => atRef m' Cert.ReferenceIdeal.main_arg2
  | 1 => atRef m' Cert.ReferenceIdeal.main_arg4
  | 2 => atRef m' Cert.ReferenceIdeal.main_arg6
/-- The reference's input. -/
def refX : FVec Ideal ⟨2, ![512, 1024]⟩ .f32 := atRef m' Cert.ReferenceIdeal.main_arg0
/-- The reference's result. -/
def refOut : FVec Ideal ⟨2, ![512, 1024]⟩ .f32 :=
  refStage (refStage (refStage (refX m') (refWi m' 0) (refWo m' 0)) (refWi m' 1) (refWo m' 1)) (refWi m' 2) (refWo m' 2)

theorem cut_of_agree (h : Agree m m') :
    Cut (argsOf m) (mat (refX m')) (fun L => mat (refWi m' L)) (fun L => mat (refWo m' L)) where
  x d i k := (congrFun (arg0_eq m d) _).trans ((congrFun (h d).1 _).trans (block_cols _ _ d i k))
  wi L d k j := match L with
    | 0 => (congrFun (arg1_eq m d) _).trans ((congrFun (h d).2.1 _).trans (block_rows _ _ d k j))
    | 1 => (congrFun (arg3_eq m d) _).trans ((congrFun (h d).2.2.2.1 _).trans (block_rows _ _ d k j))
    | 2 => (congrFun (arg5_eq m d) _).trans ((congrFun (h d).2.2.2.2.2.1 _).trans (block_rows _ _ d k j))
  wo L d k j := match L with
    | 0 => (congrFun (arg2_eq m d) _).trans ((congrFun (h d).2.2.1 _).trans (block_cols _ _ d k j))
    | 1 => (congrFun (arg4_eq m d) _).trans ((congrFun (h d).2.2.2.2.1 _).trans (block_cols _ _ d k j))
    | 2 => (congrFun (arg6_eq m d) _).trans ((congrFun (h d).2.2.2.2.2.2 _).trans (block_cols _ _ d k j))

/-- Device `c` computes block `c` of the reference's result. -/
theorem out_eq (h : Agree m m') (c : Dev Cert.KernelIdeal.nD) :
    outArr (argsOf m) c = Layout.block ⟨2, ![512, 256]⟩ ⟨2, ![512, 1024]⟩ 1 4 c (refOut m') := by
  funext i
  obtain ⟨r, k, rfl⟩ : ∃ (r : Fin 512) (k : Fin 256), i = ix2 r k := ⟨i 0, i 1, eq_ix2 i⟩
  refine (outArr_apply (cut_of_agree m m' h) c r k).trans (Eq.trans ?_ (block_cols (refOut m') (by decide) c r k).symm)
  show _ = mat (refOut m') r (col c k)
  rw [refOut, refStage_mat, refStage_mat, refStage_mat]

end Args

end Cert.Mlp

end
-- ==== Proof.lean ====
/- The claim's proof: the three frames and the idealization, from the runs of the kernel and of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel over the reals runs to its end, leaves its arguments, and leaves every semaphore at zero. -/
theorem frame_kernelIdeal : Cert.quiescent_KernelIdeal := fun m ρ _ => Cert.Mlp.run_kept (F := Ideal) m ρ

/-- The kernel over bits, likewise: its text is the same. -/
theorem frame_kernel : Cert.quiescent_Kernel := fun m ρ _ => Cert.Mlp.run_kept_same (F := Bits) m ρ

/-- The reference has no semaphore, and its run leaves its arguments. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the reals each device's result is its block of the reference's. -/
theorem algebraic : Cert.algebraic_KernelIdeal_ReferenceIdeal := fun m ρ m' ρ' _ h =>
  ⟨Cert.Mlp.refOut m',
    (θ_run Cert.KernelIdeal.defs _ _).mono (fun _ hr c => ⟨((hr.1 c).1).trans (Cert.Mlp.out_eq m m' h c), (hr.1 c).2⟩)
      (Cert.Mlp.run_main (F := Ideal) m ρ),
    (θ_run Cert.ReferenceIdeal.defs _ _).mono (fun _ hr => hr 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
